-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S16x1024x1152 : Shape := ⟨3, ![16, 1024, 1152]⟩
abbrev S1152x2x6912 : Shape := ⟨3, ![1152, 2, 6912]⟩
abbrev S2x6912 : Shape := ⟨2, ![2, 6912]⟩
abbrev S2x1152x32 : Shape := ⟨3, ![2, 1152, 32]⟩
abbrev S2x32x6912 : Shape := ⟨3, ![2, 32, 6912]⟩
abbrev S_ : Shape := ⟨0, ![]⟩
abbrev S16x1024 : Shape := ⟨2, ![16, 1024]⟩

class Facts : Prop where
  bitsLt_bf16_f32 : FTy.bits .bf16 < FTy.bits .f32
  reducesTo_S16x1024x1152_S16x1024_d2 : S16x1024x1152.ReducesTo [2] S16x1024
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x1024x1152 .bf16) (main_arg1 : FVec F S1152x2x6912 .fp8e4m3) (main_arg2 : FVec F S2x6912 .f32) (main_arg3 : FVec F S2x1152x32 .bf16) (main_arg4 : FVec F S2x32x6912 .bf16) : IVec S_ 1 :=
  let main_v0 : FVec F S16x1024x1152 .f32 := (extf .f32 · bitsLt_bf16_f32) main_arg0
  let main_v1 : FVec F S16x1024x1152 .f32 := Host.absf main_v0
  let main_cst : FVec F S_ .f32 := constant S_ .f32 0xFF800000#32
  let main_v2 : FVec F S16x1024 .f32 := (fun x v => Host.reduce FloatOps.maximumf x v reducesTo_S16x1024x1152_S16x1024_d2 h_S_) main_v1 main_cst
  let main_cst_0 : FVec F S_ .f32 := constant S_ .f32 0x3B124925#32
  let main_v3 : FVec F S16x1024 .f32 := broadcastInDim S16x1024 ![] bcast_S_S16x1024 main_cst_0
  let main_v4 : FVec F S16x1024 .f32 := mulf main_v2 main_v3
  let main_cst_1 : FVec F S_ .f32 := constant S_ .f32 0x00000000#32
  let main_v5 : FVec F S16x1024 .f32 := broadcastInDim S16x1024 ![] bcast_S_S16x1024 main_cst_1
  let main_v6 : IVec S16x1024 1 := cmpf .oeq main_v2 main_v5
  let main_cst_2 : FVec F S_ .f32 := constant S_ .f32 0x00800000#32
  let main_v7 : FVec F S16x1024 .f32 := broadcastInDim S16x1024 ![] bcast_S_S16x1024 main_cst_2
  let main_v8 : IVec S16x1024 1 := cmpf .oge main_v4 main_v7
  let main_cst_3 : FVec F S_ .f32 := constant S_ .f32 0x7E800000#32
  let main_v9 : FVec F S16x1024 .f32 := broadcastInDim S16x1024 ![] bcast_S_S16x1024 main_cst_3
  let main_v10 : IVec S16x1024 1 := cmpf .olt main_v4 main_v9
  let main_v11 : IVec S16x1024 1 := andi main_v8 main_v10
  let main_v12 : IVec S16x1024 1 := ori main_v6 main_v11
  let main_c : IVec S_ 1 := constantI S_ 1 1#1
  let main_v13 : IVec S_ 1 := (fun x v => Host.reduce IntOp.andi x v reducesTo_S16x1024_S_d0_1 h_S_) main_v12 main_c
  main_v13
-- ==== Kernel.lean ====
abbrev S16x1024x1152 : Shape := ⟨3, ![16, 1024, 1152]⟩
abbrev S1152x2x6912 : Shape := ⟨3, ![1152, 2, 6912]⟩
abbrev S2x6912 : Shape := ⟨2, ![2, 6912]⟩
abbrev S2x1152x32 : Shape := ⟨3, ![2, 1152, 32]⟩
abbrev S2x32x6912 : Shape := ⟨3, ![2, 32, 6912]⟩
abbrev S16384x1152 : Shape := ⟨2, ![16384, 1152]⟩
abbrev S2x1152x6912 : Shape := ⟨3, ![2, 1152, 6912]⟩
abbrev S2x32x1152 : Shape := ⟨3, ![2, 32, 1152]⟩
abbrev S64x1152 : Shape := ⟨2, ![64, 1152]⟩
abbrev S16384x6912 : Shape := ⟨2, ![16384, 6912]⟩
abbrev S16x1024 : Shape := ⟨2, ![16, 1024]⟩
abbrev S512x1152 : Shape := ⟨2, ![512, 1152]⟩
abbrev S512x6912 : Shape := ⟨2, ![512, 6912]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S512x128 : Shape := ⟨2, ![512, 128]⟩
abbrev S128x512 : Shape := ⟨2, ![128, 512]⟩
abbrev S1x512 : Shape := ⟨2, ![1, 512]⟩
abbrev S512x64 : Shape := ⟨2, ![512, 64]⟩
abbrev S1x1152x768 : Shape := ⟨3, ![1, 1152, 768]⟩
abbrev S1152x768 : Shape := ⟨2, ![1152, 768]⟩
abbrev S512x768 : Shape := ⟨2, ![512, 768]⟩
abbrev S512x32 : Shape := ⟨2, ![512, 32]⟩
abbrev S1x32x768 : Shape := ⟨3, ![1, 32, 768]⟩
abbrev S32x768 : Shape := ⟨2, ![32, 768]⟩
abbrev S1x768 : Shape := ⟨2, ![1, 768]⟩

abbrev nBuf : Space → Nat
  | .hbm => 12
  | .vmem => 11
  | .smem => 0
  | _ => 0

abbrev bufTy : (tb : Table) → Fin (tcTables nBuf tb) → BufTy
  | .hbm, ⟨0, _⟩ => ⟨S16x1024x1152, .bf16⟩
  | .hbm, ⟨1, _⟩ => ⟨S1152x2x6912, .fp8e4m3⟩
  | .hbm, ⟨2, _⟩ => ⟨S2x6912, .f32⟩
  | .hbm, ⟨3, _⟩ => ⟨S2x1152x32, .bf16⟩
  | .hbm, ⟨4, _⟩ => ⟨S2x32x6912, .bf16⟩
  | .hbm, ⟨5, _⟩ => ⟨S16384x1152, .bf16⟩
  | .hbm, ⟨6, _⟩ => ⟨S2x1152x6912, .fp8e4m3⟩
  | .hbm, ⟨7, _⟩ => ⟨S2x32x1152, .bf16⟩
  | .hbm, ⟨8, _⟩ => ⟨S64x1152, .bf16⟩
  | .hbm, ⟨9, _⟩ => ⟨S16384x6912, .bf16⟩
  | .hbm, ⟨10, _⟩ => ⟨S16384x1152, .fp8e4m3⟩
  | .hbm, ⟨11, _⟩ => ⟨S16x1024, .f32⟩
  | .local _ .vmem, ⟨0, _⟩ => ⟨S512x1152, .bf16⟩
  | .local _ .vmem, ⟨1, _⟩ => ⟨S512x1152, .bf16⟩
  | .local _ .vmem, ⟨2, _⟩ => ⟨S2x1152x6912, .fp8e4m3⟩
  | .local _ .vmem, ⟨3, _⟩ => ⟨S2x6912, .f32⟩
  | .local _ .vmem, ⟨4, _⟩ => ⟨S64x1152, .bf16⟩
  | .local _ .vmem, ⟨5, _⟩ => ⟨S2x32x6912, .bf16⟩
  | .local _ .vmem, ⟨6, _⟩ => ⟨S512x6912, .bf16⟩
  | .local _ .vmem, ⟨7, _⟩ => ⟨S512x6912, .bf16⟩
  | .local _ .vmem, ⟨8, _⟩ => ⟨S512x1152, .fp8e4m3⟩
  | .local _ .vmem, ⟨9, _⟩ => ⟨S512x1152, .fp8e4m3⟩
  | .local _ .vmem, ⟨10, _⟩ => ⟨S16x1024, .f32⟩
  | _, _ => ⟨S16x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2_i32_17 : BitVec 32 := 2#32
  let c0_i32_18 : BitVec 32 := 0#32
  let v68 : BitVec 1 := Scalar.cmpi .eq c2_i32_17 c0_i32_18
  let c1_i32_19 : BitVec 32 := 1#32
  let v69 : BitVec 32 := Scalar.select v68 c1_i32_19 c2_i32_17
  let v70 : BitVec 32 := Scalar.remsi arg0 v69
  let c0_i32_21 : BitVec 32 := 0#32
  let v72 : BitVec 1 := Scalar.cmpi .slt v70 c0_i32_21
  let c0_i32_22 : BitVec 32 := 0#32
  let v73 : BitVec 1 := Scalar.cmpi .slt v69 c0_i32_22
  let v74 : BitVec 1 := Scalar.xori v72 v73
  let c0_i32_20 : BitVec 32 := 0#32
  let v71 : BitVec 1 := Scalar.cmpi .ne v70 c0_i32_20
  let v75 : BitVec 1 := Scalar.andi v74 v71
  let v76 : BitVec 32 := Scalar.addi v70 v69
  let v77 : BitVec 32 := Scalar.select v75 v76 v70
  let c512_i32 : BitVec 32 := 512#32
  let v78 : BitVec 32 := Scalar.muli v77 c512_i32
  v78
def k0_off1 (i : grid0.Coords) : Fin 2 → Nat :=
  let arg0 : BitVec 32 := BitVec.ofNat 32 (i 0).val
  let c0_i32_12 : BitVec 32 := 0#32
  let v52 : BitVec 1 := Scalar.cmpi .sgt arg0 c0_i32_12
  let v53 : BitVec 32 := Scalar.extui v52
  let c0_i32_13 : BitVec 32 := 0#32
  let v54 : BitVec 1 := Scalar.cmpi .slt arg0 c0_i32_13
  let v55 : BitVec 32 := Scalar.extui v54
  let v56 : BitVec 32 := Scalar.subi v53 v55
  let c2_i32 : BitVec 32 := 2#32
  let c0_i32_14 : BitVec 32 := 0#32
  let v57 : BitVec 1 := Scalar.cmpi .sgt c2_i32 c0_i32_14
  let v58 : BitVec 32 := Scalar.extui v57
  let c0_i32_15 : BitVec 32 := 0#32
  let v59 : BitVec 1 := Scalar.cmpi .slt c2_i32 c0_i32_15
  let v60 : BitVec 32 := Scalar.extui v59
  let v61 : BitVec 32 := Scalar.subi v58 v60
  let v62 : BitVec 1 := Scalar.cmpi .ne v56 v61
  let v63 : BitVec 32 := Scalar.remsi arg0 c2_i32
  let c0_i32_16 : BitVec 32 := 0#32
  let v64 : BitVec 1 := Scalar.cmpi .ne v63 c0_i32_16
  let v65 : BitVec 1 := Scalar.andi v62 v64
  let v51 : BitVec 32 := Scalar.divsi arg0 c2_i32
  let c1_i32 : BitVec 32 := 1#32
  let v66 : BitVec 32 := Scalar.subi v51 c1_i32
  let v67 : BitVec 32 := Scalar.select v65 v66 v51
  let v80 : Index := Scalar.indexCast v67
  let c2_i32_17 : BitVec 32 := 2#32
  let c0_i32_18 : BitVec 32 := 0#32
  let v68 : BitVec 1 := Scalar.cmpi .eq c2_i32_17 c0_i32_18
  let c1_i32_19 : BitVec 32 := 1#32
  let v69 : BitVec 32 := Scalar.select v68 c1_i32_19 c2_i32_17
  let v70 : BitVec 32 := Scalar.remsi arg0 v69
  let c0_i32_21 : BitVec 32 := 0#32
  let v72 : BitVec 1 := Scalar.cmpi .slt v70 c0_i32_21
  let c0_i32_22 : BitVec 32 := 0#32
  let v73 : BitVec 1 := Scalar.cmpi .slt v69 c0_i32_22
  let v74 : BitVec 1 := Scalar.xori v72 v73
  let c0_i32_20 : BitVec 32 := 0#32
  let v71 : BitVec 1 := Scalar.cmpi .ne v70 c0_i32_20
  let v75 : BitVec 1 := Scalar.andi v74 v71
  let v76 : BitVec 32 := Scalar.addi v70 v69
  let v77 : BitVec 32 := Scalar.select v75 v76 v70
  let c512_i32 : BitVec 32 := 512#32
  let v78 : BitVec 32 := Scalar.muli v77 c512_i32
  let v79 : BitVec 32 := v78
  let v81 : Index := Scalar.indexCast v79
  ![v80.toNat, v81.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1152x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6912 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x1024x1152 : Shape := ⟨3, ![16, 1024, 1152]⟩
abbrev S1152x2x6912 : Shape := ⟨3, ![1152, 2, 6912]⟩
abbrev S2x6912 : Shape := ⟨2, ![2, 6912]⟩
abbrev S2x1152x32 : Shape := ⟨3, ![2, 1152, 32]⟩
abbrev S2x32x6912 : Shape := ⟨3, ![2, 32, 6912]⟩
abbrev S16384x6912 : Shape := ⟨2, ![16384, 6912]⟩
abbrev S16384x1152 : Shape := ⟨2, ![16384, 1152]⟩
abbrev S16x1024 : Shape := ⟨2, ![16, 1024]⟩
abbrev S16x1024x1 : Shape := ⟨3, ![16, 1024, 1]⟩
abbrev S1152x1x6912 : Shape := ⟨3, ![1152, 1, 6912]⟩
abbrev S1152x6912 : Shape := ⟨2, ![1152, 6912]⟩
abbrev S16384x1 : Shape := ⟨2, ![16384, 1]⟩
abbrev S1x6912 : Shape := ⟨2, ![1, 6912]⟩
abbrev S1x1152x32 : Shape := ⟨3, ![1, 1152, 32]⟩
abbrev S1152x32 : Shape := ⟨2, ![1152, 32]⟩
abbrev S16384x32 : Shape := ⟨2, ![16384, 32]⟩
abbrev S1x32x6912 : Shape := ⟨3, ![1, 32, 6912]⟩
abbrev S32x6912 : Shape := ⟨2, ![32, 6912]⟩

abbrev nBuf : Space → Nat
  | .hbm => 8
  | .vmem => 8
  | .smem => 0
  | _ => 0

abbrev bufTy : (tb : Table) → Fin (tcTables nBuf tb) → BufTy
  | .hbm, ⟨0, _⟩ => ⟨S16x1024x1152, .bf16⟩
  | .hbm, ⟨1, _⟩ => ⟨S1152x2x6912, .fp8e4m3⟩
  | .hbm, ⟨2, _⟩ => ⟨S2x6912, .f32⟩
  | .hbm, ⟨3, _⟩ => ⟨S2x1152x32, .bf16⟩
  | .hbm, ⟨4, _⟩ => ⟨S2x32x6912, .bf16⟩
  | .hbm, ⟨5, _⟩ => ⟨S16384x6912, .bf16⟩
  | .hbm, ⟨6, _⟩ => ⟨S16384x1152, .fp8e4m3⟩
  | .hbm, ⟨7, _⟩ => ⟨S16x1024, .f32⟩
  | .local _ .vmem, ⟨0, _⟩ => ⟨S16x1024x1152, .bf16⟩
  | .local _ .vmem, ⟨1, _⟩ => ⟨S1152x2x6912, .fp8e4m3⟩
  | .local _ .vmem, ⟨2, _⟩ => ⟨S2x6912, .f32⟩
  | .local _ .vmem, ⟨3, _⟩ => ⟨S2x1152x32, .bf16⟩
  | .local _ .vmem, ⟨4, _⟩ => ⟨S2x32x6912, .bf16⟩
  | .local _ .vmem, ⟨5, _⟩ => ⟨S16384x6912, .bf16⟩
  | .local _ .vmem, ⟨6, _⟩ => ⟨S16384x1152, .fp8e4m3⟩
  | .local _ .vmem, ⟨7, _⟩ => ⟨S16x1024, .f32⟩
  | _, _ => ⟨S16x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x1024x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x2x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1152x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
/- The kernel's run at any values: what one grid point leaves in each output block, the body's triple, the launch, and the frame
   claim. The scale output is one block that every grid point writes a part of, so its buffer is described by a relation between
   the contents found and the contents left; the other windows are described exactly. -/
module

public import proofs.«01_k».proof.Proof.Gen.Kernel.Skeleton
public import proofs.«01_k».proof.Proof.Gen.Kernel.Frame
public import Idealize.ShloMosaic.Lib.Pipeline.ArrRel
public import Idealize.ShloMosaic.Lib.VecWindow

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each output window's buffer -/

/-- The whole block of tokens. -/
abbrev rx : Rect S512x1152 := Rect.unit (s := S512x1152) ![0, 0] S512x1152.size inb_S512x1152_S512x1152_0_0
/-- The whole stacked down projection of the adapters. -/
abbrev ra : Rect S64x1152 := Rect.unit (s := S64x1152) ![0, 0] S64x1152.size inb_S64x1152_S64x1152_0_0
/-- The columns `n … n + 767` of the output block. -/
abbrev ry (n : ℕ) (h : ∀ a, (![0, n] : Fin 2 → ℕ) a + S512x768.size a ≤ S512x6912.size a) : Rect S512x6912 :=
  Rect.unit (s := S512x6912) ![0, n] S512x768.size h

/-- The row scales of a token block. -/
def scaleOf (x0 : Vec F S512x1152 .bf16) : FVec F S512x1 .f32 := k0_pay5 (View.ld x0 rx)
/-- The fp8 codes of a token block. -/
def codesOf (x0 : Vec F S512x1152 .bf16) : FVec F S512x1152 .fp8e4m3 :=
  k0_pay8 (k0_pay6 (View.ld x0 rx)) (Scalar.ofBits .f32 0x43E00000#32) (k0_pay7 (F := F))
/-- The low-rank activations of a token block, both adapters side by side. -/
def lowOf (x0 : Vec F S512x1152 .bf16) (x3 : Vec F S64x1152 .bf16) : FVec F S512x64 .bf16 := k0_pay10 (k0_pay2 (View.ld x0 rx)) (View.ld x3 ra)
/-- One column tile of the gated product, from the row scales, the codes, the low-rank activations and the tile's slices of the
    weights, adapters and column scales of the gate (`w0 b0 s0`) and of the up projection (`w1 b1 s1`). -/
def gateUp (sc : FVec F S512x1 .f32) (cd : FVec F S512x1152 .fp8e4m3) (t : FVec F S512x64 .bf16)
    (w0 : Vec F S1x1152x768 .fp8e4m3) (b0 : Vec F S1x32x768 .bf16) (s0 : Vec F S1x768 .f32)
    (w1 : Vec F S1x1152x768 .fp8e4m3) (b1 : Vec F S1x32x768 .bf16) (s1 : Vec F S1x768 .f32) : FVec F S512x768 .bf16 :=
  k0_pay16 (k0_pay14 sc cd t w1 b1 s1) (k0_pay15 sc cd t w0 b0 s0)

/-- The output block after the body, from the input blocks: its nine column tiles, last first. -/
def outY (x0 : Vec F S512x1152 .bf16) (x1 : Vec F S2x1152x6912 .fp8e4m3) (x2 : Vec F S2x6912 .f32) (x3 : Vec F S64x1152 .bf16) (x4 : Vec F S2x32x6912 .bf16) : Vec F S512x6912 .bf16 :=
  View.canon [⟨ry 6144 inb_S512x6912_S512x768_0_6144, gateUp (scaleOf x0) (codesOf x0) (lowOf x0 x3)
        (View.ld x1 (Rect.unit (s := S2x1152x6912) ![0, 0, 6144] S1x1152x768.size inb_S2x1152x6912_S1x1152x768_0_0_6144)) (View.ld x4 (Rect.unit (s := S2x32x6912) ![0, 0, 6144] S1x32x768.size inb_S2x32x6912_S1x32x768_0_0_6144)) (View.ld x2 (Rect.unit (s := S2x6912) ![0, 6144] S1x768.size inb_S2x6912_S1x768_0_6144))
        (View.ld x1 (Rect.unit (s := S2x1152x6912) ![1, 0, 6144] S1x1152x768.size inb_S2x1152x6912_S1x1152x768_1_0_6144)) (View.ld x4 (Rect.unit (s := S2x32x6912) ![1, 0, 6144] S1x32x768.size inb_S2x32x6912_S1x32x768_1_0_6144)) (View.ld x2 (Rect.unit (s := S2x6912) ![1, 6144] S1x768.size inb_S2x6912_S1x768_1_6144))⟩,
    ⟨ry 5376 inb_S512x6912_S512x768_0_5376, gateUp (scaleOf x0) (codesOf x0) (lowOf x0 x3)
        (View.ld x1 (Rect.unit (s := S2x1152x6912) ![0, 0, 5376] S1x1152x768.size inb_S2x1152x6912_S1x1152x768_0_0_5376)) (View.ld x4 (Rect.unit (s := S2x32x6912) ![0, 0, 5376] S1x32x768.size inb_S2x32x6912_S1x32x768_0_0_5376)) (View.ld x2 (Rect.unit (s := S2x6912) ![0, 5376] S1x768.size inb_S2x6912_S1x768_0_5376))
        (View.ld x1 (Rect.unit (s := S2x1152x6912) ![1, 0, 5376] S1x1152x768.size inb_S2x1152x6912_S1x1152x768_1_0_5376)) (View.ld x4 (Rect.unit (s := S2x32x6912) ![1, 0, 5376] S1x32x768.size inb_S2x32x6912_S1x32x768_1_0_5376)) (View.ld x2 (Rect.unit (s := S2x6912) ![1, 5376] S1x768.size inb_S2x6912_S1x768_1_5376))⟩,
    ⟨ry 4608 inb_S512x6912_S512x768_0_4608, gateUp (scaleOf x0) (codesOf x0) (lowOf x0 x3)
        (View.ld x1 (Rect.unit (s := S2x1152x6912) ![0, 0, 4608] S1x1152x768.size inb_S2x1152x6912_S1x1152x768_0_0_4608)) (View.ld x4 (Rect.unit (s := S2x32x6912) ![0, 0, 4608] S1x32x768.size inb_S2x32x6912_S1x32x768_0_0_4608)) (View.ld x2 (Rect.unit (s := S2x6912) ![0, 4608] S1x768.size inb_S2x6912_S1x768_0_4608))
        (View.ld x1 (Rect.unit (s := S2x1152x6912) ![1, 0, 4608] S1x1152x768.size inb_S2x1152x6912_S1x1152x768_1_0_4608)) (View.ld x4 (Rect.unit (s := S2x32x6912) ![1, 0, 4608] S1x32x768.size inb_S2x32x6912_S1x32x768_1_0_4608)) (View.ld x2 (Rect.unit (s := S2x6912) ![1, 4608] S1x768.size inb_S2x6912_S1x768_1_4608))⟩,
    ⟨ry 3840 inb_S512x6912_S512x768_0_3840, gateUp (scaleOf x0) (codesOf x0) (lowOf x0 x3)
        (View.ld x1 (Rect.unit (s := S2x1152x6912) ![0, 0, 3840] S1x1152x768.size inb_S2x1152x6912_S1x1152x768_0_0_3840)) (View.ld x4 (Rect.unit (s := S2x32x6912) ![0, 0, 3840] S1x32x768.size inb_S2x32x6912_S1x32x768_0_0_3840)) (View.ld x2 (Rect.unit (s := S2x6912) ![0, 3840] S1x768.size inb_S2x6912_S1x768_0_3840))
        (View.ld x1 (Rect.unit (s := S2x1152x6912) ![1, 0, 3840] S1x1152x768.size inb_S2x1152x6912_S1x1152x768_1_0_3840)) (View.ld x4 (Rect.unit (s := S2x32x6912) ![1, 0, 3840] S1x32x768.size inb_S2x32x6912_S1x32x768_1_0_3840)) (View.ld x2 (Rect.unit (s := S2x6912) ![1, 3840] S1x768.size inb_S2x6912_S1x768_1_3840))⟩,
    ⟨ry 3072 inb_S512x6912_S512x768_0_3072, gateUp (scaleOf x0) (codesOf x0) (lowOf x0 x3)
        (View.ld x1 (Rect.unit (s := S2x1152x6912) ![0, 0, 3072] S1x1152x768.size inb_S2x1152x6912_S1x1152x768_0_0_3072)) (View.ld x4 (Rect.unit (s := S2x32x6912) ![0, 0, 3072] S1x32x768.size inb_S2x32x6912_S1x32x768_0_0_3072)) (View.ld x2 (Rect.unit (s := S2x6912) ![0, 3072] S1x768.size inb_S2x6912_S1x768_0_3072))
        (View.ld x1 (Rect.unit (s := S2x1152x6912) ![1, 0, 3072] S1x1152x768.size inb_S2x1152x6912_S1x1152x768_1_0_3072)) (View.ld x4 (Rect.unit (s := S2x32x6912) ![1, 0, 3072] S1x32x768.size inb_S2x32x6912_S1x32x768_1_0_3072)) (View.ld x2 (Rect.unit (s := S2x6912) ![1, 3072] S1x768.size inb_S2x6912_S1x768_1_3072))⟩,
    ⟨ry 2304 inb_S512x6912_S512x768_0_2304, gateUp (scaleOf x0) (codesOf x0) (lowOf x0 x3)
        (View.ld x1 (Rect.unit (s := S2x1152x6912) ![0, 0, 2304] S1x1152x768.size inb_S2x1152x6912_S1x1152x768_0_0_2304)) (View.ld x4 (Rect.unit (s := S2x32x6912) ![0, 0, 2304] S1x32x768.size inb_S2x32x6912_S1x32x768_0_0_2304)) (View.ld x2 (Rect.unit (s := S2x6912) ![0, 2304] S1x768.size inb_S2x6912_S1x768_0_2304))
        (View.ld x1 (Rect.unit (s := S2x1152x6912) ![1, 0, 2304] S1x1152x768.size inb_S2x1152x6912_S1x1152x768_1_0_2304)) (View.ld x4 (Rect.unit (s := S2x32x6912) ![1, 0, 2304] S1x32x768.size inb_S2x32x6912_S1x32x768_1_0_2304)) (View.ld x2 (Rect.unit (s := S2x6912) ![1, 2304] S1x768.size inb_S2x6912_S1x768_1_2304))⟩,
    ⟨ry 1536 inb_S512x6912_S512x768_0_1536, gateUp (scaleOf x0) (codesOf x0) (lowOf x0 x3)
        (View.ld x1 (Rect.unit (s := S2x1152x6912) ![0, 0, 1536] S1x1152x768.size inb_S2x1152x6912_S1x1152x768_0_0_1536)) (View.ld x4 (Rect.unit (s := S2x32x6912) ![0, 0, 1536] S1x32x768.size inb_S2x32x6912_S1x32x768_0_0_1536)) (View.ld x2 (Rect.unit (s := S2x6912) ![0, 1536] S1x768.size inb_S2x6912_S1x768_0_1536))
        (View.ld x1 (Rect.unit (s := S2x1152x6912) ![1, 0, 1536] S1x1152x768.size inb_S2x1152x6912_S1x1152x768_1_0_1536)) (View.ld x4 (Rect.unit (s := S2x32x6912) ![1, 0, 1536] S1x32x768.size inb_S2x32x6912_S1x32x768_1_0_1536)) (View.ld x2 (Rect.unit (s := S2x6912) ![1, 1536] S1x768.size inb_S2x6912_S1x768_1_1536))⟩,
    ⟨ry 768 inb_S512x6912_S512x768_0_768, gateUp (scaleOf x0) (codesOf x0) (lowOf x0 x3)
        (View.ld x1 (Rect.unit (s := S2x1152x6912) ![0, 0, 768] S1x1152x768.size inb_S2x1152x6912_S1x1152x768_0_0_768)) (View.ld x4 (Rect.unit (s := S2x32x6912) ![0, 0, 768] S1x32x768.size inb_S2x32x6912_S1x32x768_0_0_768)) (View.ld x2 (Rect.unit (s := S2x6912) ![0, 768] S1x768.size inb_S2x6912_S1x768_0_768))
        (View.ld x1 (Rect.unit (s := S2x1152x6912) ![1, 0, 768] S1x1152x768.size inb_S2x1152x6912_S1x1152x768_1_0_768)) (View.ld x4 (Rect.unit (s := S2x32x6912) ![1, 0, 768] S1x32x768.size inb_S2x32x6912_S1x32x768_1_0_768)) (View.ld x2 (Rect.unit (s := S2x6912) ![1, 768] S1x768.size inb_S2x6912_S1x768_1_768))⟩,
    ⟨ry 0 inb_S512x6912_S512x768_0_0, gateUp (scaleOf x0) (codesOf x0) (lowOf x0 x3)
        (View.ld x1 (Rect.unit (s := S2x1152x6912) ![0, 0, 0] S1x1152x768.size inb_S2x1152x6912_S1x1152x768_0_0_0)) (View.ld x4 (Rect.unit (s := S2x32x6912) ![0, 0, 0] S1x32x768.size inb_S2x32x6912_S1x32x768_0_0_0)) (View.ld x2 (Rect.unit (s := S2x6912) ![0, 0] S1x768.size inb_S2x6912_S1x768_0_0))
        (View.ld x1 (Rect.unit (s := S2x1152x6912) ![1, 0, 0] S1x1152x768.size inb_S2x1152x6912_S1x1152x768_1_0_0)) (View.ld x4 (Rect.unit (s := S2x32x6912) ![1, 0, 0] S1x32x768.size inb_S2x32x6912_S1x32x768_1_0_0)) (View.ld x2 (Rect.unit (s := S2x6912) ![1, 0] S1x768.size inb_S2x6912_S1x768_1_0))⟩]

/-- The nine tiles cover the output block. -/
theorem coverY (p0 : Vec F S512x768 .bf16) (p1 : Vec F S512x768 .bf16) (p2 : Vec F S512x768 .bf16) (p3 : Vec F S512x768 .bf16) (p4 : Vec F S512x768 .bf16) (p5 : Vec F S512x768 .bf16) (p6 : Vec F S512x768 .bf16) (p7 : Vec F S512x768 .bf16) (p8 : Vec F S512x768 .bf16) (y : S512x6912.Idx) :
    ∃ pc ∈ ([⟨ry 6144 inb_S512x6912_S512x768_0_6144, p0⟩, ⟨ry 5376 inb_S512x6912_S512x768_0_5376, p1⟩, ⟨ry 4608 inb_S512x6912_S512x768_0_4608, p2⟩, ⟨ry 3840 inb_S512x6912_S512x768_0_3840, p3⟩, ⟨ry 3072 inb_S512x6912_S512x768_0_3072, p4⟩, ⟨ry 2304 inb_S512x6912_S512x768_0_2304, p5⟩, ⟨ry 1536 inb_S512x6912_S512x768_0_1536, p6⟩, ⟨ry 768 inb_S512x6912_S512x768_0_768, p7⟩, ⟨ry 0 inb_S512x6912_S512x768_0_0, p8⟩] : List (View.Piece (Elt F) S512x6912 .bf16)), y ∈ pc.1.set :=
  View.cover_of_tiled [⟨ry 6144 inb_S512x6912_S512x768_0_6144, p0⟩, ⟨ry 5376 inb_S512x6912_S512x768_0_5376, p1⟩, ⟨ry 4608 inb_S512x6912_S512x768_0_4608, p2⟩, ⟨ry 3840 inb_S512x6912_S512x768_0_3840, p3⟩, ⟨ry 3072 inb_S512x6912_S512x768_0_3072, p4⟩, ⟨ry 2304 inb_S512x6912_S512x768_0_2304, p5⟩, ⟨ry 1536 inb_S512x6912_S512x768_0_1536, p6⟩, ⟨ry 768 inb_S512x6912_S512x768_0_768, p7⟩, ⟨ry 0 inb_S512x6912_S512x768_0_0, p8⟩] S512x768.size (by rfl) y

/-- The scale array after a grid point that found `z` in it: the point's lane of 512 row scales put at its place. -/
def putScale (i : grid0.Coords) (x0 : Vec F S512x1152 .bf16) (z : Vec F S16x1024 .f32) : Vec F S16x1024 .f32 :=
  VecWindow.put z (k0_off1 i) S1x512.size (k0_pay9 (scaleOf x0))

/-! ## The body's triple -/

set_option maxHeartbeats 4000000 in
/-- The kernel body on whole staging memrefs, the inputs' at read contents, the two blocked outputs' at anything and the scale
    array's at `z`, runs to the continuation holding the inputs' as they were, the outputs' at `outY` and `codesOf` of the inputs'
    and the scale array's at `putScale` of `z`. -/
theorem sound_kernel (c : Dev nD) (E : Set ℕ) (i : grid0.Coords) (arg1 : Memref sig .tc .vmem S512x1152 .bf16) (harg1 : arg1.IsWhole) (arg2 : Memref sig .tc .vmem S2x1152x6912 .fp8e4m3) (harg2 : arg2.IsWhole) (arg3 : Memref sig .tc .vmem S2x6912 .f32) (harg3 : arg3.IsWhole) (arg4 : Memref sig .tc .vmem S64x1152 .bf16) (harg4 : arg4.IsWhole) (arg5 : Memref sig .tc .vmem S2x32x6912 .bf16) (harg5 : arg5.IsWhole) (arg6 : Memref sig .tc .vmem S512x6912 .bf16) (harg6 : arg6.IsWhole) (arg7 : Memref sig .tc .vmem S512x1152 .fp8e4m3) (harg7 : arg7.IsWhole) (arg8 : Memref sig .tc .vmem S16x1024 .f32) (harg8 : arg8.IsWhole)
    (x0 : Vec F S512x1152 .bf16) (x1 : Vec F S2x1152x6912 .fp8e4m3) (x2 : Vec F S2x6912 .f32) (x3 : Vec F S64x1152 .bf16) (x4 : Vec F S2x32x6912 .bf16) (z : Vec F S16x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outY x0 x1 x2 x3 x4) ∗ owns (c : Thread nD τ) arg7 fullShare (codesOf x0) ∗ owns (c : Thread nD τ) arg8 fullShare (putScale i x0 z)) -∗ K ⟨⟩))
      ⊢ wp frame (wpE (defs₀ (F := F)) Variants.none c none) E (cc0_gate_up i arg1 harg1 arg2 harg2 arg3 harg3 arg4 harg4 arg5 harg5 arg6 harg6 arg7 harg7 arg8 harg8) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverY _ _ _ _ _ _ _ _ _)).trans ?_
    rfl
  isplitl [H6]
  · iexists _; isplitr
    swap; · iexact H6
    ipureintro
    exact View.read_writes_full _ _ _ _ _
  iexists _; isplitr
  swap; · iexact H7
  ipureintro
  exact View.read_writes_cons_put _ _ _ _ _ rfl

/-! ## The pipeline's proof data -/

/-- What grid point `t` may leave in each window's buffer, given what it found there: an input's as found, the blocked outputs' at
    `outY` and `codesOf` of the input blocks, the scale array's at `putScale` of what was found. -/
def rdat (c : Dev nD) : RDat τ (Elt F) Unit ℕ (UR sig nD τ) ℕ cfg0 c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, Y, X => X = Y
    | ⟨4, _⟩, Y, X => X = Y
    | ⟨5, _⟩, _, X => X = outY (iblk m c 0 t) (iblk m c 1 t) (iblk m c 2 t) (iblk m c 3 t) (iblk m c 4 t)
    | ⟨6, _⟩, _, X => X = codesOf (iblk m c 0 t)
    | ⟨7, _⟩, Y, X => X = putScale (grid0.coords t) (iblk m c 0 t) Y
  Φ _ := Pipeline.ΦA spec0 c
  q _ := fullShare
  owed _ := 0

/-- The proof data's arrays are the region-entry contents. -/
theorem A_eq (c : Dev nD) (w : Fin cfg0.W) : (rdat m c).A w = V m c (Pipeline.arrRef spec0 w) := by dsimp only [rdat]

/-- What the body leaves, window by window. -/
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = Y) := by dsimp only [rdat]
theorem after_5 (c : Dev nD) (t : Fin cfg0.N) (Y X) : (rdat m c).after 5 t Y X = (X = outY (iblk m c 0 t) (iblk m c 1 t) (iblk m c 2 t) (iblk m c 3 t) (iblk m c 4 t)) := by dsimp only [rdat]
theorem after_6 (c : Dev nD) (t : Fin cfg0.N) (Y X) : (rdat m c).after 6 t Y X = (X = codesOf (iblk m c 0 t)) := by dsimp only [rdat]
theorem after_7 (c : Dev nD) (t : Fin cfg0.N) (Y X) : (rdat m c).after 7 t Y X = (X = putScale (grid0.coords t) (iblk m c 0 t) Y) := by dsimp only [rdat]

/-- Each input's current staging buffer holds its block at every point, fetched there or not. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [after_0] at h; exact h) t Y h
  rw [hd]; unfold RDat.fetched RDat.blockOf iblk; rw [A_eq]; rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [after_1] at h; exact h) t Y h
  rw [hd]; unfold RDat.fetched RDat.blockOf iblk; rw [A_eq]; rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [after_2] at h; exact h) t Y h
  rw [hd]; unfold RDat.fetched RDat.blockOf iblk; rw [A_eq]; rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [after_3] at h; exact h) t Y h
  rw [hd]; unfold RDat.fetched RDat.blockOf iblk; rw [A_eq]; rfl
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rw [after_4] at h; exact h) t Y h
  rw [hd]; unfold RDat.fetched RDat.blockOf iblk; rw [A_eq]; rfl

/-! ## The body obligation, at a generic point -/

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X))

/-- The body at any point: the inputs' memrefs hold their blocks, so `sound_kernel` applies; the invariant and the core's
    `owes` pass through unread. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  simp only [after_0, after_1, after_2, after_3, after_4, after_5, after_6, after_7]
  rw [finds_0 m c t _ (hY 0), finds_1 m c t _ (hY 1), finds_2 m c t _ (hY 2), finds_3 m c t _ (hY 3), finds_4 m c t _ (hY 4)]
  iintro ⟨HΦ, Ho, H0, H1, H2, H3, H4, H5, H6, H7⟩
  iapply (sound_kernel c Set.univ (grid0.coords t) _ _ _ _ _ _ _ _ _ _ _ _ _ _ _ _ (iblk m c 0 t) (iblk m c 1 t) (iblk m c 2 t) (iblk m c 3 t) (iblk m c 4 t) (Y 7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  iexists _; isplitr; · ipureintro; rfl
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
set_option maxHeartbeats 800000 in
/-- The launch: from any memory with zero counters every weakly fair execution terminates, every final state has each array of the
    pipeline at contents the relation allows and every other unscoped buffer as the region found it, and every semaphore counter is
    zero. -/
theorem run_main_quiescent : θ_run defs (onTc (τ := τ) (main (F := F))) (s₀ m ρ) (fun r => (RDat.FramePost cfg0 (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The argument arrays end unchanged, at any post the launch reaches. -/
theorem args_of {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 4 rfl).trans ((A_eq m c 4).trans (V_main_arg4 m c))⟩

/-- The frame claim's statement at any values: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_main_quiescent m ρ)

end Cert.Kernel.Run

end
-- ==== Proof.KernelIdealRun.lean ====
/- The kernel's run at any values: what one grid point leaves in each output block, the body's triple, the launch, and the frame
   claim. The scale output is one block that every grid point writes a part of, so its buffer is described by a relation between
   the contents found and the contents left; the other windows are described exactly. -/
module

public import proofs.«01_k».proof.Proof.Gen.KernelIdeal.Skeleton
public import proofs.«01_k».proof.Proof.Gen.KernelIdeal.Frame
public import Idealize.ShloMosaic.Lib.Pipeline.ArrRel
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each output window's buffer -/

/-- The whole block of tokens. -/
abbrev rx : Rect S512x1152 := Rect.unit (s := S512x1152) ![0, 0] S512x1152.size inb_S512x1152_S512x1152_0_0
/-- The whole stacked down projection of the adapters. -/
abbrev ra : Rect S64x1152 := Rect.unit (s := S64x1152) ![0, 0] S64x1152.size inb_S64x1152_S64x1152_0_0
/-- The columns `n … n + 767` of the output block. -/
abbrev ry (n : ℕ) (h : ∀ a, (![0, n] : Fin 2 → ℕ) a + S512x768.size a ≤ S512x6912.size a) : Rect S512x6912 :=
  Rect.unit (s := S512x6912) ![0, n] S512x768.size h

/-- The row scales of a token block. -/
def scaleOf (x0 : Vec F S512x1152 .bf16) : FVec F S512x1 .f32 := k0_pay5 (View.ld x0 rx)
/-- The fp8 codes of a token block. -/
def codesOf (x0 : Vec F S512x1152 .bf16) : FVec F S512x1152 .fp8e4m3 :=
  k0_pay8 (k0_pay6 (View.ld x0 rx)) (Scalar.ofBits .f32 0x43E00000#32) (k0_pay7 (F := F))
/-- The low-rank activations of a token block, both adapters side by side. -/
def lowOf (x0 : Vec F S512x1152 .bf16) (x3 : Vec F S64x1152 .bf16) : FVec F S512x64 .bf16 := k0_pay10 (k0_pay2 (View.ld x0 rx)) (View.ld x3 ra)
/-- One column tile of the gated product, from the row scales, the codes, the low-rank activations and the tile's slices of the
    weights, adapters and column scales of the gate (`w0 b0 s0`) and of the up projection (`w1 b1 s1`). -/
def gateUp (sc : FVec F S512x1 .f32) (cd : FVec F S512x1152 .fp8e4m3) (t : FVec F S512x64 .bf16)
    (w0 : Vec F S1x1152x768 .fp8e4m3) (b0 : Vec F S1x32x768 .bf16) (s0 : Vec F S1x768 .f32)
    (w1 : Vec F S1x1152x768 .fp8e4m3) (b1 : Vec F S1x32x768 .bf16) (s1 : Vec F S1x768 .f32) : FVec F S512x768 .bf16 :=
  k0_pay16 (k0_pay14 sc cd t w1 b1 s1) (k0_pay15 sc cd t w0 b0 s0)

/-- The output block after the body, from the input blocks: its nine column tiles, last first. -/
def outY (x0 : Vec F S512x1152 .bf16) (x1 : Vec F S2x1152x6912 .fp8e4m3) (x2 : Vec F S2x6912 .f32) (x3 : Vec F S64x1152 .bf16) (x4 : Vec F S2x32x6912 .bf16) : Vec F S512x6912 .bf16 :=
  View.canon [⟨ry 6144 inb_S512x6912_S512x768_0_6144, gateUp (scaleOf x0) (codesOf x0) (lowOf x0 x3)
        (View.ld x1 (Rect.unit (s := S2x1152x6912) ![0, 0, 6144] S1x1152x768.size inb_S2x1152x6912_S1x1152x768_0_0_6144)) (View.ld x4 (Rect.unit (s := S2x32x6912) ![0, 0, 6144] S1x32x768.size inb_S2x32x6912_S1x32x768_0_0_6144)) (View.ld x2 (Rect.unit (s := S2x6912) ![0, 6144] S1x768.size inb_S2x6912_S1x768_0_6144))
        (View.ld x1 (Rect.unit (s := S2x1152x6912) ![1, 0, 6144] S1x1152x768.size inb_S2x1152x6912_S1x1152x768_1_0_6144)) (View.ld x4 (Rect.unit (s := S2x32x6912) ![1, 0, 6144] S1x32x768.size inb_S2x32x6912_S1x32x768_1_0_6144)) (View.ld x2 (Rect.unit (s := S2x6912) ![1, 6144] S1x768.size inb_S2x6912_S1x768_1_6144))⟩,
    ⟨ry 5376 inb_S512x6912_S512x768_0_5376, gateUp (scaleOf x0) (codesOf x0) (lowOf x0 x3)
        (View.ld x1 (Rect.unit (s := S2x1152x6912) ![0, 0, 5376] S1x1152x768.size inb_S2x1152x6912_S1x1152x768_0_0_5376)) (View.ld x4 (Rect.unit (s := S2x32x6912) ![0, 0, 5376] S1x32x768.size inb_S2x32x6912_S1x32x768_0_0_5376)) (View.ld x2 (Rect.unit (s := S2x6912) ![0, 5376] S1x768.size inb_S2x6912_S1x768_0_5376))
        (View.ld x1 (Rect.unit (s := S2x1152x6912) ![1, 0, 5376] S1x1152x768.size inb_S2x1152x6912_S1x1152x768_1_0_5376)) (View.ld x4 (Rect.unit (s := S2x32x6912) ![1, 0, 5376] S1x32x768.size inb_S2x32x6912_S1x32x768_1_0_5376)) (View.ld x2 (Rect.unit (s := S2x6912) ![1, 5376] S1x768.size inb_S2x6912_S1x768_1_5376))⟩,
    ⟨ry 4608 inb_S512x6912_S512x768_0_4608, gateUp (scaleOf x0) (codesOf x0) (lowOf x0 x3)
        (View.ld x1 (Rect.unit (s := S2x1152x6912) ![0, 0, 4608] S1x1152x768.size inb_S2x1152x6912_S1x1152x768_0_0_4608)) (View.ld x4 (Rect.unit (s := S2x32x6912) ![0, 0, 4608] S1x32x768.size inb_S2x32x6912_S1x32x768_0_0_4608)) (View.ld x2 (Rect.unit (s := S2x6912) ![0, 4608] S1x768.size inb_S2x6912_S1x768_0_4608))
        (View.ld x1 (Rect.unit (s := S2x1152x6912) ![1, 0, 4608] S1x1152x768.size inb_S2x1152x6912_S1x1152x768_1_0_4608)) (View.ld x4 (Rect.unit (s := S2x32x6912) ![1, 0, 4608] S1x32x768.size inb_S2x32x6912_S1x32x768_1_0_4608)) (View.ld x2 (Rect.unit (s := S2x6912) ![1, 4608] S1x768.size inb_S2x6912_S1x768_1_4608))⟩,
    ⟨ry 3840 inb_S512x6912_S512x768_0_3840, gateUp (scaleOf x0) (codesOf x0) (lowOf x0 x3)
        (View.ld x1 (Rect.unit (s := S2x1152x6912) ![0, 0, 3840] S1x1152x768.size inb_S2x1152x6912_S1x1152x768_0_0_3840)) (View.ld x4 (Rect.unit (s := S2x32x6912) ![0, 0, 3840] S1x32x768.size inb_S2x32x6912_S1x32x768_0_0_3840)) (View.ld x2 (Rect.unit (s := S2x6912) ![0, 3840] S1x768.size inb_S2x6912_S1x768_0_3840))
        (View.ld x1 (Rect.unit (s := S2x1152x6912) ![1, 0, 3840] S1x1152x768.size inb_S2x1152x6912_S1x1152x768_1_0_3840)) (View.ld x4 (Rect.unit (s := S2x32x6912) ![1, 0, 3840] S1x32x768.size inb_S2x32x6912_S1x32x768_1_0_3840)) (View.ld x2 (Rect.unit (s := S2x6912) ![1, 3840] S1x768.size inb_S2x6912_S1x768_1_3840))⟩,
    ⟨ry 3072 inb_S512x6912_S512x768_0_3072, gateUp (scaleOf x0) (codesOf x0) (lowOf x0 x3)
        (View.ld x1 (Rect.unit (s := S2x1152x6912) ![0, 0, 3072] S1x1152x768.size inb_S2x1152x6912_S1x1152x768_0_0_3072)) (View.ld x4 (Rect.unit (s := S2x32x6912) ![0, 0, 3072] S1x32x768.size inb_S2x32x6912_S1x32x768_0_0_3072)) (View.ld x2 (Rect.unit (s := S2x6912) ![0, 3072] S1x768.size inb_S2x6912_S1x768_0_3072))
        (View.ld x1 (Rect.unit (s := S2x1152x6912) ![1, 0, 3072] S1x1152x768.size inb_S2x1152x6912_S1x1152x768_1_0_3072)) (View.ld x4 (Rect.unit (s := S2x32x6912) ![1, 0, 3072] S1x32x768.size inb_S2x32x6912_S1x32x768_1_0_3072)) (View.ld x2 (Rect.unit (s := S2x6912) ![1, 3072] S1x768.size inb_S2x6912_S1x768_1_3072))⟩,
    ⟨ry 2304 inb_S512x6912_S512x768_0_2304, gateUp (scaleOf x0) (codesOf x0) (lowOf x0 x3)
        (View.ld x1 (Rect.unit (s := S2x1152x6912) ![0, 0, 2304] S1x1152x768.size inb_S2x1152x6912_S1x1152x768_0_0_2304)) (View.ld x4 (Rect.unit (s := S2x32x6912) ![0, 0, 2304] S1x32x768.size inb_S2x32x6912_S1x32x768_0_0_2304)) (View.ld x2 (Rect.unit (s := S2x6912) ![0, 2304] S1x768.size inb_S2x6912_S1x768_0_2304))
        (View.ld x1 (Rect.unit (s := S2x1152x6912) ![1, 0, 2304] S1x1152x768.size inb_S2x1152x6912_S1x1152x768_1_0_2304)) (View.ld x4 (Rect.unit (s := S2x32x6912) ![1, 0, 2304] S1x32x768.size inb_S2x32x6912_S1x32x768_1_0_2304)) (View.ld x2 (Rect.unit (s := S2x6912) ![1, 2304] S1x768.size inb_S2x6912_S1x768_1_2304))⟩,
    ⟨ry 1536 inb_S512x6912_S512x768_0_1536, gateUp (scaleOf x0) (codesOf x0) (lowOf x0 x3)
        (View.ld x1 (Rect.unit (s := S2x1152x6912) ![0, 0, 1536] S1x1152x768.size inb_S2x1152x6912_S1x1152x768_0_0_1536)) (View.ld x4 (Rect.unit (s := S2x32x6912) ![0, 0, 1536] S1x32x768.size inb_S2x32x6912_S1x32x768_0_0_1536)) (View.ld x2 (Rect.unit (s := S2x6912) ![0, 1536] S1x768.size inb_S2x6912_S1x768_0_1536))
        (View.ld x1 (Rect.unit (s := S2x1152x6912) ![1, 0, 1536] S1x1152x768.size inb_S2x1152x6912_S1x1152x768_1_0_1536)) (View.ld x4 (Rect.unit (s := S2x32x6912) ![1, 0, 1536] S1x32x768.size inb_S2x32x6912_S1x32x768_1_0_1536)) (View.ld x2 (Rect.unit (s := S2x6912) ![1, 1536] S1x768.size inb_S2x6912_S1x768_1_1536))⟩,
    ⟨ry 768 inb_S512x6912_S512x768_0_768, gateUp (scaleOf x0) (codesOf x0) (lowOf x0 x3)
        (View.ld x1 (Rect.unit (s := S2x1152x6912) ![0, 0, 768] S1x1152x768.size inb_S2x1152x6912_S1x1152x768_0_0_768)) (View.ld x4 (Rect.unit (s := S2x32x6912) ![0, 0, 768] S1x32x768.size inb_S2x32x6912_S1x32x768_0_0_768)) (View.ld x2 (Rect.unit (s := S2x6912) ![0, 768] S1x768.size inb_S2x6912_S1x768_0_768))
        (View.ld x1 (Rect.unit (s := S2x1152x6912) ![1, 0, 768] S1x1152x768.size inb_S2x1152x6912_S1x1152x768_1_0_768)) (View.ld x4 (Rect.unit (s := S2x32x6912) ![1, 0, 768] S1x32x768.size inb_S2x32x6912_S1x32x768_1_0_768)) (View.ld x2 (Rect.unit (s := S2x6912) ![1, 768] S1x768.size inb_S2x6912_S1x768_1_768))⟩,
    ⟨ry 0 inb_S512x6912_S512x768_0_0, gateUp (scaleOf x0) (codesOf x0) (lowOf x0 x3)
        (View.ld x1 (Rect.unit (s := S2x1152x6912) ![0, 0, 0] S1x1152x768.size inb_S2x1152x6912_S1x1152x768_0_0_0)) (View.ld x4 (Rect.unit (s := S2x32x6912) ![0, 0, 0] S1x32x768.size inb_S2x32x6912_S1x32x768_0_0_0)) (View.ld x2 (Rect.unit (s := S2x6912) ![0, 0] S1x768.size inb_S2x6912_S1x768_0_0))
        (View.ld x1 (Rect.unit (s := S2x1152x6912) ![1, 0, 0] S1x1152x768.size inb_S2x1152x6912_S1x1152x768_1_0_0)) (View.ld x4 (Rect.unit (s := S2x32x6912) ![1, 0, 0] S1x32x768.size inb_S2x32x6912_S1x32x768_1_0_0)) (View.ld x2 (Rect.unit (s := S2x6912) ![1, 0] S1x768.size inb_S2x6912_S1x768_1_0))⟩]

/-- The nine tiles cover the output block. -/
theorem coverY (p0 : Vec F S512x768 .bf16) (p1 : Vec F S512x768 .bf16) (p2 : Vec F S512x768 .bf16) (p3 : Vec F S512x768 .bf16) (p4 : Vec F S512x768 .bf16) (p5 : Vec F S512x768 .bf16) (p6 : Vec F S512x768 .bf16) (p7 : Vec F S512x768 .bf16) (p8 : Vec F S512x768 .bf16) (y : S512x6912.Idx) :
    ∃ pc ∈ ([⟨ry 6144 inb_S512x6912_S512x768_0_6144, p0⟩, ⟨ry 5376 inb_S512x6912_S512x768_0_5376, p1⟩, ⟨ry 4608 inb_S512x6912_S512x768_0_4608, p2⟩, ⟨ry 3840 inb_S512x6912_S512x768_0_3840, p3⟩, ⟨ry 3072 inb_S512x6912_S512x768_0_3072, p4⟩, ⟨ry 2304 inb_S512x6912_S512x768_0_2304, p5⟩, ⟨ry 1536 inb_S512x6912_S512x768_0_1536, p6⟩, ⟨ry 768 inb_S512x6912_S512x768_0_768, p7⟩, ⟨ry 0 inb_S512x6912_S512x768_0_0, p8⟩] : List (View.Piece (Elt F) S512x6912 .bf16)), y ∈ pc.1.set :=
  View.cover_of_tiled [⟨ry 6144 inb_S512x6912_S512x768_0_6144, p0⟩, ⟨ry 5376 inb_S512x6912_S512x768_0_5376, p1⟩, ⟨ry 4608 inb_S512x6912_S512x768_0_4608, p2⟩, ⟨ry 3840 inb_S512x6912_S512x768_0_3840, p3⟩, ⟨ry 3072 inb_S512x6912_S512x768_0_3072, p4⟩, ⟨ry 2304 inb_S512x6912_S512x768_0_2304, p5⟩, ⟨ry 1536 inb_S512x6912_S512x768_0_1536, p6⟩, ⟨ry 768 inb_S512x6912_S512x768_0_768, p7⟩, ⟨ry 0 inb_S512x6912_S512x768_0_0, p8⟩] S512x768.size (by rfl) y

/-- The scale array after a grid point that found `z` in it: the point's lane of 512 row scales put at its place. -/
def putScale (i : grid0.Coords) (x0 : Vec F S512x1152 .bf16) (z : Vec F S16x1024 .f32) : Vec F S16x1024 .f32 :=
  VecWindow.put z (k0_off1 i) S1x512.size (k0_pay9 (scaleOf x0))

/-! ## The body's triple -/

set_option maxHeartbeats 4000000 in
/-- The kernel body on whole staging memrefs, the inputs' at read contents, the two blocked outputs' at anything and the scale
    array's at `z`, runs to the continuation holding the inputs' as they were, the outputs' at `outY` and `codesOf` of the inputs'
    and the scale array's at `putScale` of `z`. -/
theorem sound_kernel (c : Dev nD) (E : Set ℕ) (i : grid0.Coords) (arg1 : Memref sig .tc .vmem S512x1152 .bf16) (harg1 : arg1.IsWhole) (arg2 : Memref sig .tc .vmem S2x1152x6912 .fp8e4m3) (harg2 : arg2.IsWhole) (arg3 : Memref sig .tc .vmem S2x6912 .f32) (harg3 : arg3.IsWhole) (arg4 : Memref sig .tc .vmem S64x1152 .bf16) (harg4 : arg4.IsWhole) (arg5 : Memref sig .tc .vmem S2x32x6912 .bf16) (harg5 : arg5.IsWhole) (arg6 : Memref sig .tc .vmem S512x6912 .bf16) (harg6 : arg6.IsWhole) (arg7 : Memref sig .tc .vmem S512x1152 .fp8e4m3) (harg7 : arg7.IsWhole) (arg8 : Memref sig .tc .vmem S16x1024 .f32) (harg8 : arg8.IsWhole)
    (x0 : Vec F S512x1152 .bf16) (x1 : Vec F S2x1152x6912 .fp8e4m3) (x2 : Vec F S2x6912 .f32) (x3 : Vec F S64x1152 .bf16) (x4 : Vec F S2x32x6912 .bf16) (z : Vec F S16x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outY x0 x1 x2 x3 x4) ∗ owns (c : Thread nD τ) arg7 fullShare (codesOf x0) ∗ owns (c : Thread nD τ) arg8 fullShare (putScale i x0 z)) -∗ K ⟨⟩))
      ⊢ wp frame (wpE (defs₀ (F := F)) Variants.none c none) E (cc0_gate_up i arg1 harg1 arg2 harg2 arg3 harg3 arg4 harg4 arg5 harg5 arg6 harg6 arg7 harg7 arg8 harg8) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverY _ _ _ _ _ _ _ _ _)).trans ?_
    rfl
  isplitl [H6]
  · iexists _; isplitr
    swap; · iexact H6
    ipureintro
    exact View.read_writes_full _ _ _ _ _
  iexists _; isplitr
  swap; · iexact H7
  ipureintro
  exact View.read_writes_cons_put _ _ _ _ _ rfl

/-! ## The pipeline's proof data -/

/-- What grid point `t` may leave in each window's buffer, given what it found there: an input's as found, the blocked outputs' at
    `outY` and `codesOf` of the input blocks, the scale array's at `putScale` of what was found. -/
def rdat (c : Dev nD) : RDat τ (Elt F) Unit ℕ (UR sig nD τ) ℕ cfg0 c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, Y, X => X = Y
    | ⟨4, _⟩, Y, X => X = Y
    | ⟨5, _⟩, _, X => X = outY (iblk m c 0 t) (iblk m c 1 t) (iblk m c 2 t) (iblk m c 3 t) (iblk m c 4 t)
    | ⟨6, _⟩, _, X => X = codesOf (iblk m c 0 t)
    | ⟨7, _⟩, Y, X => X = putScale (grid0.coords t) (iblk m c 0 t) Y
  Φ _ := Pipeline.ΦA spec0 c
  q _ := fullShare
  owed _ := 0

/-- The proof data's arrays are the region-entry contents. -/
theorem A_eq (c : Dev nD) (w : Fin cfg0.W) : (rdat m c).A w = V m c (Pipeline.arrRef spec0 w) := by dsimp only [rdat]

/-- What the body leaves, window by window. -/
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = Y) := by dsimp only [rdat]
theorem after_5 (c : Dev nD) (t : Fin cfg0.N) (Y X) : (rdat m c).after 5 t Y X = (X = outY (iblk m c 0 t) (iblk m c 1 t) (iblk m c 2 t) (iblk m c 3 t) (iblk m c 4 t)) := by dsimp only [rdat]
theorem after_6 (c : Dev nD) (t : Fin cfg0.N) (Y X) : (rdat m c).after 6 t Y X = (X = codesOf (iblk m c 0 t)) := by dsimp only [rdat]
theorem after_7 (c : Dev nD) (t : Fin cfg0.N) (Y X) : (rdat m c).after 7 t Y X = (X = putScale (grid0.coords t) (iblk m c 0 t) Y) := by dsimp only [rdat]

/-- Each input's current staging buffer holds its block at every point, fetched there or not. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [after_0] at h; exact h) t Y h
  rw [hd]; unfold RDat.fetched RDat.blockOf iblk; rw [A_eq]; rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [after_1] at h; exact h) t Y h
  rw [hd]; unfold RDat.fetched RDat.blockOf iblk; rw [A_eq]; rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [after_2] at h; exact h) t Y h
  rw [hd]; unfold RDat.fetched RDat.blockOf iblk; rw [A_eq]; rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [after_3] at h; exact h) t Y h
  rw [hd]; unfold RDat.fetched RDat.blockOf iblk; rw [A_eq]; rfl
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rw [after_4] at h; exact h) t Y h
  rw [hd]; unfold RDat.fetched RDat.blockOf iblk; rw [A_eq]; rfl

/-! ## The body obligation, at a generic point -/

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X))

/-- The body at any point: the inputs' memrefs hold their blocks, so `sound_kernel` applies; the invariant and the core's
    `owes` pass through unread. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  simp only [after_0, after_1, after_2, after_3, after_4, after_5, after_6, after_7]
  rw [finds_0 m c t _ (hY 0), finds_1 m c t _ (hY 1), finds_2 m c t _ (hY 2), finds_3 m c t _ (hY 3), finds_4 m c t _ (hY 4)]
  iintro ⟨HΦ, Ho, H0, H1, H2, H3, H4, H5, H6, H7⟩
  iapply (sound_kernel c Set.univ (grid0.coords t) _ _ _ _ _ _ _ _ _ _ _ _ _ _ _ _ (iblk m c 0 t) (iblk m c 1 t) (iblk m c 2 t) (iblk m c 3 t) (iblk m c 4 t) (Y 7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  iexists _; isplitr; · ipureintro; rfl
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
set_option maxHeartbeats 800000 in
/-- The launch: from any memory with zero counters every weakly fair execution terminates, every final state has each array of the
    pipeline at contents the relation allows and every other unscoped buffer as the region found it, and every semaphore counter is
    zero. -/
theorem run_main_quiescent : θ_run defs (onTc (τ := τ) (main (F := F))) (s₀ m ρ) (fun r => (RDat.FramePost cfg0 (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The argument arrays end unchanged, at any post the launch reaches. -/
theorem args_of {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 4 rfl).trans ((A_eq m c 4).trans (V_main_arg4 m c))⟩

/-- The frame claim's statement at any values: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_main_quiescent m ρ)

end Cert.KernelIdeal.Run

end
-- ==== Proof.Scales.lean ====
/- The row scale over the extended reals: the power of two the kernel finds by counting the powers of two above a 448th of a row's
   largest magnitude, and its inverse, are the reference's `2 ^ e` and `2 ^ (-e)`, at a row of zeros and at every row whose 448th is
   a normal number below `2 ^ 126`. -/
module

public import Idealize.ShloMosaic.PureOps.Ideal.Laws
public import Idealize.ShloMosaic.Lib.WordSum

@[expose] public section

noncomputable section

namespace Cert.Scales

open Idealize.ShloMosaic
open scoped BigOperators

/-! ## The two definitions -/

/-- The f32 whose exponent field is `k` and whose other bits are zero. -/
def power (k : BitVec 32) : EReal := Ideal.ofBits .f32 (IntOp.shli .vector k 23#32)

/-- How many of the 256 exponent fields name a number above `v`. -/
def count (v : EReal) : BitVec 32 := ∑ k : Fin 256, (Ideal.cmp .olt v (power (BitVec.ofNat 32 k.val))).setWidth 32

/-- The exponent from that count: zero at the two ends, else the field less 126. -/
def expOf (n : BitVec 32) : BitVec 32 :=
  Scalar.select (IntOp.ori (IntOp.cmpi .eq (IntOp.subi 255#32 n) 0#32) (IntOp.cmpi .eq (IntOp.subi 255#32 n) 255#32)) 0#32
    (IntOp.subi (IntOp.subi 255#32 n) 126#32)

/-- A 448th, the f32 nearest it. -/
def part : EReal := Ideal.ofBits .f32 0x3B124925#32

/-- The kernel's scale of a row of largest magnitude `a`, -/
def kScale (a : EReal) : EReal := power (IntOp.addi 127#32 (expOf (count (a * part))))
/-- and its inverse. -/
def kInv (a : EReal) : EReal := power (IntOp.subi 127#32 (expOf (count (a * part))))

/-- The reference's exponent of a row of largest magnitude `a`: zero at `a = 0`, else `⌊log₂ (a / 448)⌋ + 1`. -/
def rExp (a : EReal) : EReal :=
  Scalar.select (Ideal.cmp .oeq a (Ideal.ofBits .f32 0x00000000#32)) (Ideal.ofBits .f32 0x00000000#32)
    (Ideal.liftRound Int.floor (Ideal.div (Ideal.log (a * part)) (Ideal.log (Ideal.ofBits .f32 0x40000000#32)))
      + Ideal.ofBits .f32 0x3F800000#32)
/-- The reference's scale, -/
def rScale (a : EReal) : EReal := Ideal.exp2 (rExp a)
/-- and its inverse. -/
def rInv (a : EReal) : EReal := Ideal.exp2 (Ideal.ofBits .f32 0x00000000#32 - rExp a)

/-- The rows the precondition admits: zeros, or a 448th of the largest magnitude in `[2 ^ -126, 2 ^ 126)`. -/
def Admits (a : EReal) : Prop :=
  a = Ideal.ofBits .f32 0x00000000#32
    ∨ (Ideal.ofBits .f32 0x00800000#32 ≤ a * part ∧ a * part < Ideal.ofBits .f32 0x7E800000#32)

/-! ## The bit patterns -/

/-- The fields of a word that holds only an exponent. -/
theorem fields : ∀ k : Fin 256,
    (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

/-- What a positive word with a zero significand denotes, by its exponent field. -/
theorem ieee_of (b : BitVec 32) (k : ℕ) (f1 : b.extractLsb' (8 + 23) 1 = 0#1) (f2 : (b.extractLsb' 23 8).toNat = k)
    (f3 : (b.extractLsb' 0 23).toNat = 0) :
    Ideal.ieee 8 23 b = if k = 255 then ⊤ else if k = 0 then 0 else (((2 : ℝ) ^ ((k : ℤ) - 127) : ℝ) : EReal) := by
  unfold Ideal.ieee
  have hs : ((0#1 : BitVec 1) == 1#1) = false := rfl
  simp only [f1, f2, f3, hs]
  by_cases h1 : k = 255
  · subst h1; norm_num
  by_cases h2 : k = 0
  · subst h2; norm_num
  rw [if_neg (by omega), if_neg h2, if_neg h1, if_neg h2]
  congr 1
  have e : ((k : ℤ) - 127) = ((k : ℤ) - (2 ^ (8 - 1) - 1) - ((23 : ℕ) : ℤ)) + 23 := by norm_num
  rw [e, zpow_add₀ (by norm_num : (2 : ℝ) ≠ 0)]
  generalize (2 : ℝ) ^ ((k : ℤ) - (2 ^ (8 - 1) - 1) - ((23 : ℕ) : ℤ)) = z
  push_cast
  norm_num
  ring

/-- So what an exponent field names. -/
theorem power_eq (k : ℕ) (h : k < 256) :
    power (BitVec.ofNat 32 k) = if k = 255 then ⊤ else if k = 0 then 0 else (((2 : ℝ) ^ ((k : ℤ) - 127) : ℝ) : EReal) := by
  obtain ⟨f1, f2, f3⟩ := fields ⟨k, h⟩
  exact ieee_of _ k f1 f2 f3

/-- A field strictly between the ends names its power of two, -/
theorem power_mid (k : ℕ) (h1 : 1 ≤ k) (h2 : k ≤ 254) : power (BitVec.ofNat 32 k) = (((2 : ℝ) ^ ((k : ℤ) - 127) : ℝ) : EReal) := by
  rw [power_eq k (by omega), if_neg (by omega), if_neg (by omega)]
/-- the lowest names zero, -/
theorem power_zero : power (BitVec.ofNat 32 0) = 0 := by
  rw [power_eq 0 (by omega), if_neg (by omega), if_pos rfl]
/-- and the highest infinity. -/
theorem power_top : power (BitVec.ofNat 32 255) = ⊤ := by
  rw [power_eq 255 (by omega), if_pos rfl]

/-- How many fields are at or above `m`. -/
theorem sum_ge : ∀ m : Fin 257, (∑ k : Fin 256, if m.val ≤ k.val then 1#32 else 0#32) = BitVec.ofNat 32 (256 - m.val) := by
  intro m
  have e : ∀ n : ℕ, ((n : ℕ) : BitVec 32) = BitVec.ofNat 32 n := fun n => rfl
  rw [show (∑ k : Fin 256, if m.val ≤ k.val then 1#32 else 0#32) = ∑ k : Fin 256, if m.val ≤ k.val then (1 : BitVec 32) else 0 from rfl,
    Finset.sum_boole, e]
  congr 1
  revert m
  decide +kernel

/-- A count whose terms are a threshold. -/
theorem count_eq (v : EReal) (m : ℕ) (hm : m ≤ 256) (h : ∀ k : ℕ, k < 256 → (v < power (BitVec.ofNat 32 k) ↔ m ≤ k)) :
    count v = BitVec.ofNat 32 (256 - m) := by
  rw [← sum_ge ⟨m, by omega⟩]
  unfold count
  refine Finset.sum_congr rfl fun k _ => ?_
  show BitVec.setWidth 32 (BitVec.ofBool (decide (v < power (BitVec.ofNat 32 k.val)))) = _
  by_cases hk : m ≤ k.val
  · rw [if_pos hk, decide_eq_true ((h k k.isLt).2 hk)]; rfl
  · rw [if_neg hk, decide_eq_false fun hv => hk ((h k k.isLt).1 hv)]; rfl

/-- The exponent of a count, for the admitted rows, and the fields of the scale and of its inverse. -/
theorem expOf_fields : ∀ m : Fin 254, 2 ≤ m.val →
    IntOp.addi 127#32 (expOf (BitVec.ofNat 32 (256 - m.val))) = BitVec.ofNat 32 m.val
    ∧ IntOp.subi 127#32 (expOf (BitVec.ofNat 32 (256 - m.val))) = BitVec.ofNat 32 (254 - m.val) := by decide +kernel

/-- The same at a row of zeros. -/
theorem expOf_zero : IntOp.addi 127#32 (expOf (BitVec.ofNat 32 (256 - 1))) = BitVec.ofNat 32 127
    ∧ IntOp.subi 127#32 (expOf (BitVec.ofNat 32 (256 - 1))) = BitVec.ofNat 32 127 := by decide +kernel

/-! ## The constants -/

theorem zero_eq : Ideal.ofBits .f32 0x00000000#32 = 0 := Ideal.ofBits_zero_f32
theorem one_eq : Ideal.ofBits .f32 0x3F800000#32 = ((1 : ℝ) : EReal) :=
  (power_mid 127 (by omega) (by omega)).trans (by norm_num)
theorem two_eq : Ideal.ofBits .f32 0x40000000#32 = ((2 : ℝ) : EReal) :=
  (power_mid 128 (by omega) (by omega)).trans (by norm_num)
theorem low_eq : Ideal.ofBits .f32 0x00800000#32 = (((2 : ℝ) ^ (-126 : ℤ) : ℝ) : EReal) := power_mid 1 (by omega) (by omega)
theorem high_eq : Ideal.ofBits .f32 0x7E800000#32 = (((2 : ℝ) ^ (126 : ℤ) : ℝ) : EReal) := power_mid 253 (by omega) (by omega)

/-! ## The two agree -/

/-- A row of zeros: both scales and both inverses are one. -/
theorem zero_row : kScale 0 = rScale 0 ∧ kInv 0 = rInv 0 := by
  have hc : count (0 * part) = BitVec.ofNat 32 (256 - 1) := by
    rw [zero_mul]
    refine count_eq 0 1 (by omega) fun k hk => ?_
    rcases Nat.eq_zero_or_pos k with rfl | hp
    · rw [power_zero]; simp
    · rcases Nat.lt_or_ge k 255 with h | h
      · rw [power_mid k hp (by omega)]
        refine ⟨fun _ => hp, fun _ => ?_⟩
        have : (0 : ℝ) < (2 : ℝ) ^ ((k : ℤ) - 127) := by positivity
        exact_mod_cast this
      · obtain rfl : k = 255 := by omega
        rw [power_top]; simp
  have hr : rExp 0 = ((0 : ℝ) : EReal) := by
    unfold rExp
    rw [zero_eq]
    simp [Ideal.cmp, Scalar.select]
  have he : Ideal.exp2 ((0 : ℝ) : EReal) = ((1 : ℝ) : EReal) := by
    show ((Real.rpow 2 0 : ℝ) : EReal) = _
    rw [show Real.rpow 2 0 = (2 : ℝ) ^ (0 : ℝ) from rfl, Real.rpow_zero]
  have hp : power (BitVec.ofNat 32 127) = ((1 : ℝ) : EReal) := by
    rw [power_mid 127 (by omega) (by omega)]; norm_num
  constructor
  · unfold kScale rScale
    rw [hc, expOf_zero.1, hr, he, hp]
  · unfold kInv rInv
    rw [hc, expOf_zero.2, hr, zero_eq, ← EReal.coe_zero, ← EReal.coe_sub, sub_zero, he, hp]

/-- A row whose 448th is the real `v` in range: with `n = ⌊log₂ v⌋` the scale is `2 ^ (n + 1)`. -/
theorem real_row (a : EReal) (v : ℝ) (ha : a ≠ 0) (hv : a * part = (v : EReal)) (h1 : (2 : ℝ) ^ (-126 : ℤ) ≤ v) (h2 : v < (2 : ℝ) ^ (126 : ℤ)) :
    kScale a = rScale a ∧ kInv a = rInv a := by
  have hpos : 0 < v := lt_of_lt_of_le (by positivity) h1
  have hlog2 : 0 < Real.log 2 := Real.log_pos (by norm_num)
  obtain ⟨n, hn⟩ : ∃ n : ℤ, n = ⌊Real.log v / Real.log 2⌋ := ⟨_, rfl⟩
  have l1 : (2 : ℝ) ^ n ≤ v := by
    have h := Int.floor_le (Real.log v / Real.log 2)
    rw [← hn, le_div_iff₀ hlog2, ← Real.log_zpow] at h
    exact (Real.log_le_log_iff (by positivity) hpos).1 h
  have l2 : v < (2 : ℝ) ^ (n + 1) := by
    have h := Int.lt_floor_add_one (Real.log v / Real.log 2)
    rw [← hn, div_lt_iff₀ hlog2, show ((n : ℝ) + 1) = ((n + 1 : ℤ) : ℝ) by push_cast; ring, ← Real.log_zpow] at h
    exact (Real.log_lt_log_iff hpos (by positivity)).1 h
  have n1 : -126 ≤ n := by
    have := (zpow_lt_zpow_iff_right₀ (by norm_num : (1 : ℝ) < 2)).1 (lt_of_le_of_lt h1 l2)
    omega
  have n2 : n < 126 := (zpow_lt_zpow_iff_right₀ (by norm_num : (1 : ℝ) < 2)).1 (lt_of_le_of_lt l1 h2)
  obtain ⟨m, hm⟩ : ∃ m : ℕ, (m : ℤ) = n + 128 := ⟨(n + 128).toNat, by omega⟩
  have hc : count (a * part) = BitVec.ofNat 32 (256 - m) := by
    rw [hv]
    refine count_eq _ m (by omega) fun k hk => ?_
    rcases Nat.eq_zero_or_pos k with rfl | hp
    · rw [power_zero]
      constructor
      · intro h
        have : v < 0 := by exact_mod_cast h
        exact absurd this (not_lt.2 hpos.le)
      · intro h; omega
    · rcases Nat.lt_or_ge k 255 with h | h
      · rw [power_mid k hp (by omega), EReal.coe_lt_coe_iff]
        constructor
        · intro hk'
          have := (zpow_lt_zpow_iff_right₀ (by norm_num : (1 : ℝ) < 2)).1 (lt_of_le_of_lt l1 hk')
          omega
        · intro hk'
          refine lt_of_lt_of_le l2 (zpow_le_zpow_right₀ (by norm_num) (by omega))
      · obtain rfl : k = 255 := by omega
        rw [power_top]
        exact ⟨fun _ => by omega, fun _ => EReal.coe_lt_top v⟩
  have hfl : ⌊Real.log v / Real.log 2⌋ = n := hn.symm
  have hr : rExp a = (((n + 1 : ℤ) : ℝ) : EReal) := by
    unfold rExp
    rw [hv, zero_eq, one_eq, two_eq]
    have hcmp : Ideal.cmp .oeq a 0 = 0#1 := by
      show BitVec.ofBool (decide (a = 0)) = _
      rw [decide_eq_false ha]; rfl
    rw [hcmp]
    show Ideal.liftRound Int.floor (Ideal.div (Ideal.log (v : EReal)) (Ideal.log ((2 : ℝ) : EReal))) + ((1 : ℝ) : EReal) = _
    have hl : ∀ r : ℝ, 0 < r → Ideal.log (r : EReal) = ((Real.log r : ℝ) : EReal) := fun r hr => by
      show (if r ≤ 0 then ⊥ else ((Real.log r : ℝ) : EReal)) = _
      rw [if_neg (not_le.2 hr)]
    rw [hl v hpos, hl 2 (by norm_num)]
    have hd : Ideal.div ((Real.log v : ℝ) : EReal) ((Real.log 2 : ℝ) : EReal) = ((Real.log v / Real.log 2 : ℝ) : EReal) := by
      unfold Ideal.div
      have h2 : (Real.log 2) ≠ 0 := (Real.log_pos (by norm_num)).ne'
      rw [if_neg (by exact_mod_cast h2), ← EReal.coe_inv, ← EReal.coe_mul, div_eq_mul_inv]
    rw [hd]
    show (((⌊Real.log v / Real.log 2⌋ : ℤ) : ℝ) : EReal) + ((1 : ℝ) : EReal) = _
    rw [hfl, ← EReal.coe_add]
    push_cast; rfl
  have he : ∀ z : ℤ, Ideal.exp2 ((z : ℝ) : EReal) = (((2 : ℝ) ^ z : ℝ) : EReal) := fun z => by
    show ((Real.rpow 2 (z : ℝ) : ℝ) : EReal) = _
    rw [show Real.rpow 2 (z : ℝ) = (2 : ℝ) ^ (z : ℝ) from rfl, Real.rpow_intCast]
  have hx := expOf_fields ⟨m, by omega⟩ (by show 2 ≤ m; omega)
  dsimp only at hx
  constructor
  · unfold kScale rScale
    rw [hc, hx.1, hr, he, power_mid m (by omega) (by omega), show (m : ℤ) - 127 = n + 1 by omega]
  · unfold kInv rInv
    rw [hc, hx.2, hr, zero_eq, ← EReal.coe_zero, ← EReal.coe_sub, zero_sub, ← Int.cast_neg, he, power_mid (254 - m) (by omega) (by omega),
      show ((254 - m : ℕ) : ℤ) - 127 = -(n + 1) by omega]

/-- On an admitted row the kernel's scale and inverse are the reference's. -/
theorem agree (a : EReal) (h : Admits a) : kScale a = rScale a ∧ kInv a = rInv a := by
  unfold Admits at h
  rw [zero_eq, low_eq, high_eq] at h
  rcases eq_or_ne a 0 with rfl | ha
  · exact zero_row
  rcases h with rfl | ⟨h1, h2⟩
  · exact absurd rfl ha
  generalize hv : a * part = v at h1 h2
  induction v with
  | bot => exact absurd h1 (by simp)
  | top => exact absurd h2 (by simp)
  | coe v => exact real_row a v ha hv (by exact_mod_cast h1) (by exact_mod_cast h2)

end Cert.Scales

end
-- ==== Proof.Spec.lean ====
module

public import Idealize.ShloMosaic.PureOps.Ideal.Laws
public import proofs.«01_k».proof.Proof.Scales

/-!
  The common reading of the computation, one row at a time, over the extended reals: the row's largest magnitude, the
  eight-bit codes, one half of the gated product, and the gate.
-/

@[expose] public section

namespace Cert.Spec

open Idealize.ShloMosaic
open scoped BigOperators

/-- The largest magnitude of a row. -/
noncomputable def amax (x : Fin 1152 → EReal) : EReal :=
  (Finset.univ : Finset (Fin 1152)).fold max (Ideal.ofBits .f32 0xFF800000#32) fun k => max (x k) (-x k)

/-- One entry as a code: scaled by the inverse scale and clipped to the code range. -/
noncomputable def code (inv x : EReal) : EReal :=
  min (Ideal.ofBits .f32 0x43E00000#32) (max (Ideal.ofBits .f32 0xC3E00000#32) (x * inv))

/-- The low-rank projection of a row. -/
noncomputable def low (x : Fin 1152 → EReal) (a : Fin 1152 → EReal) : EReal := ∑ k, x k * a k

/-- One half's value before the gate: the product of codes and weights, rescaled, plus twice the low-rank update. -/
noncomputable def pre (x : Fin 1152 → EReal) (sc inv : EReal) (w : Fin 1152 → EReal) (s : EReal)
    (a : Fin 32 → Fin 1152 → EReal) (b : Fin 32 → EReal) : EReal :=
  (∑ k, code inv (x k) * w k) * sc * s + Ideal.ofBits .f32 0x40000000#32 * ∑ l, low x (a l) * b l

/-- The gate: the first half times its logistic, times the second half. -/
noncomputable def gate (p q : EReal) : EReal := p * Ideal.logistic p * q

end Cert.Spec
-- ==== Proof.KernelValue.lean ====
module

public import Idealize.ShloMosaic.Lib.MatmulPlain
public import Idealize.ShloMosaic.Lib.Pipeline.Value
public import proofs.«01_k».proof.Proof.Spec
public import proofs.«01_k».proof.Proof.KernelIdealRun

/-!
  The kernel's blocks read at an index, in terms of the row functions of `Spec`.
-/

@[expose] public section

namespace Cert.KernelIdeal.At

open Idealize.ShloMosaic Idealize.ShloMosaic.ValueIdx
open Cert.KernelIdeal Cert.KernelIdeal.Gen Cert.KernelIdeal.Run Cert.Scales Cert.Spec
open scoped BigOperators

section Generic
variable {F : FTy → Type} [FloatOps F]

/-- The largest magnitude of each row of a block. -/
noncomputable def maxOf (v0 : Vec F S512x1152 .bf16) : FVec F S512 .f32 :=
  multiReduction .maximumf [1] S512 (absf (k0_pay3 v0)) 0xFF800000#32 reduces_S512x1152_S512 (.inl rfl) rfl

/-- The powers of two, one to a column. -/
noncomputable def powersOf : FVec F S1x256 .f32 :=
  bitcastToFloat .f32 (shli (iota .tc S1x256 32 [1] iota_S1x256_d1_w32) (broadcast S1x256 23#32))

/-- A 448th of the largest magnitudes, as a column. -/
noncomputable def partsOf (v0 : Vec F S512x1152 .bf16) : FVec F S512x1 .f32 :=
  mulf (shapeCast S512x1 (maxOf v0) shapeCasts_S512_S512x1) (broadcast S512x1 (Scalar.ofBits .f32 0x3B124925#32))

/-- Which powers lie above each row's value. -/
noncomputable def aboveOf (v0 : Vec F S512x1152 .bf16) : IVec S512x256 32 :=
  extui 32 (cmpf .olt (broadcastTo S512x256 (partsOf v0) broadcasts_S512x1_S512x256)
    (broadcastTo S512x256 (powersOf (F := F)) broadcasts_S1x256_S512x256)) natLt_1_32

/-- How many lie above. -/
noncomputable def countOf (v0 : Vec F S512x1152 .bf16) : IVec S512 32 :=
  multiReductionI .add [1] S512 (aboveOf v0) 0#32 reduces_S512x256_S512 rfl

/-- The exponents, row by row. -/
theorem exp_gen (v0 : Vec F S512x1152 .bf16) (i : S512x1.Idx) :
    k0_pay4 v0 i = expOf (shapeCast S512x1 (countOf v0) shapeCasts_S512_S512x1 i) := rfl

/-- The scales, row by row. -/
theorem scale_gen (v0 : Vec F S512x1152 .bf16) (i : S512x1.Idx) :
    k0_pay5 v0 i = FloatOps.ofBits .f32 (IntOp.shli .vector (IntOp.addi 127#32 (k0_pay4 v0 i)) 23#32) := rfl

/-- The inverse scales, as a column. -/
noncomputable def invOf (v0 : Vec F S512x1152 .bf16) : FVec F S512x1 .f32 :=
  bitcastToFloat .f32 (shli (subi (broadcast S512x1 127#32) (k0_pay4 v0)) (broadcast S512x1 23#32))

/-- The codes, entry by entry. -/
theorem code_gen (v0 : Vec F S512x1152 .bf16) (i : S512x1152.Idx) :
    k0_pay8 (k0_pay6 v0) (Scalar.ofBits .f32 0x43E00000#32) (k0_pay7 (F := F)) i
      = FloatOps.truncf .fp8e4m3 bitsLt_fp8e4m3_f32 (FloatOps.minimumf (Scalar.ofBits .f32 0x43E00000#32)
        (FloatOps.maximumf (Scalar.ofBits .f32 0xC3E00000#32)
          (FloatOps.mulf (k0_pay3 v0 i) (broadcastTo S512x1152 (invOf v0) broadcasts_S512x1_S512x1152 i)))) := rfl

/-- A row value as a column. -/
theorem column_apply {α : Type} (v : S512.Idx → α) (p : Fin 512) :
    shapeCast S512x1 v shapeCasts_S512_S512x1 (ix2 p (0 : Fin 1)) = v (ix1 p) :=
  shapeCast_apply _ _ _ _ (by
    rw [Shape.rowMajor_val_one, Shape.rowMajor_val_two]
    show p.val = p.val * 1 + 0
    omega)

/-- A column spread over the table of powers. -/
theorem spread256_apply {α : Type} (v : S512x1.Idx → α) (p : Fin 512) (k : Fin 256) :
    broadcastTo S512x256 v broadcasts_S512x1_S512x256 (ix2 p k) = v (ix2 p (0 : Fin 1)) :=
  broadcastTo_apply _ _ _ _ (by intro a; match a with | ⟨0, _⟩ => rfl | ⟨1, _⟩ => rfl)

/-- The powers repeated over the rows. -/
theorem repeat256_apply {α : Type} (v : S1x256.Idx → α) (p : Fin 512) (k : Fin 256) :
    broadcastTo S512x256 v broadcasts_S1x256_S512x256 (ix2 p k) = v (ix2 (0 : Fin 1) k) :=
  broadcastTo_apply _ _ _ _ (by intro a; match a with | ⟨0, _⟩ => rfl | ⟨1, _⟩ => rfl)

/-- A column spread over a row's entries. -/
theorem spread1152_apply {α : Type} (v : S512x1.Idx → α) (p : Fin 512) (k : Fin 1152) :
    broadcastTo S512x1152 v broadcasts_S512x1_S512x1152 (ix2 p k) = v (ix2 p (0 : Fin 1)) :=
  broadcastTo_apply _ _ _ _ (by intro a; match a with | ⟨0, _⟩ => rfl | ⟨1, _⟩ => rfl)

/-- A column spread over a tile's columns. -/
theorem spread_apply {α : Type} (v : S512x1.Idx → α) (p : Fin 512) (n : Fin 768) :
    broadcastTo S512x768 v broadcasts_S512x1_S512x768 (ix2 p n) = v (ix2 p (0 : Fin 1)) :=
  broadcastTo_apply _ _ _ _ (by intro a; match a with | ⟨0, _⟩ => rfl | ⟨1, _⟩ => rfl)

/-- A row repeated over a tile's rows. -/
theorem repeat_apply {α : Type} (v : S1x768.Idx → α) (p : Fin 512) (n : Fin 768) :
    broadcastTo S512x768 v broadcasts_S1x768_S512x768 (ix2 p n) = v (ix2 (0 : Fin 1) n) :=
  broadcastTo_apply _ _ _ _ (by intro a; match a with | ⟨0, _⟩ => rfl | ⟨1, _⟩ => rfl)

/-- A tile of the weights as a matrix. -/
theorem weights_apply {α : Type} (v : S1x1152x768.Idx → α) (k : Fin 1152) (n : Fin 768) :
    shapeCast S1152x768 v shapeCasts_S1x1152x768_S1152x768 (ix2 k n) = v (ix3 (0 : Fin 1) k n) :=
  shapeCast_apply _ _ _ _ (by
    rw [Shape.rowMajor_val_two, Shape.rowMajor_val_three]
    show (0 * 1152 + k.val) * 768 + n.val = k.val * 768 + n.val
    omega)

/-- A tile of the up projection as a matrix. -/
theorem up_apply {α : Type} (v : S1x32x768.Idx → α) (l : Fin 32) (n : Fin 768) :
    shapeCast S32x768 v shapeCasts_S1x32x768_S32x768 (ix2 l n) = v (ix3 (0 : Fin 1) l n) :=
  shapeCast_apply _ _ _ _ (by
    rw [Shape.rowMajor_val_two, Shape.rowMajor_val_three]
    show (0 * 32 + l.val) * 768 + n.val = l.val * 768 + n.val
    omega)

/-- The first half's low-rank activations. -/
theorem low0_apply {α : Type} (v : S512x64.Idx → α) (p : Fin 512) (l : Fin 32) :
    extractStridedSlice S512x32 ![0, 0] v slices_S512x64_o0_0_S512x32 (ix2 p l) = v (ix2 p (⟨l.val, by omega⟩ : Fin 64)) :=
  extractStridedSlice_apply _ _ _ _ _ (by
    intro b; match b with | ⟨0, _⟩ => exact (Nat.zero_add _).symm | ⟨1, _⟩ => exact (Nat.zero_add _).symm)

/-- The second half's low-rank activations. -/
theorem low1_apply {α : Type} (v : S512x64.Idx → α) (p : Fin 512) (l : Fin 32) :
    extractStridedSlice S512x32 ![0, 32] v slices_S512x64_o0_32_S512x32 (ix2 p l) = v (ix2 p (⟨32 + l.val, by omega⟩ : Fin 64)) :=
  extractStridedSlice_apply _ _ _ _ _ (by
    intro b; match b with | ⟨0, _⟩ => exact (Nat.zero_add _).symm | ⟨1, _⟩ => rfl)

/-- One half's value over a tile, from the rescaling, the codes, that half's low-rank activations and its slices. -/
noncomputable def half (sc : FVec F S512x1 .f32) (cd : FVec F S512x1152 .fp8e4m3) (t : FVec F S512x32 .bf16)
    (w : Vec F S1x1152x768 .fp8e4m3) (b : Vec F S1x32x768 .bf16) (s : Vec F S1x768 .f32) : FVec F S512x768 .f32 :=
  addf (mulf (mulf (matmul dot_S512x1152_S1152x768_S512x768_1_0_0_1_n_n none cd
      (shapeCast S1152x768 w shapeCasts_S1x1152x768_S1152x768 : FVec F S1152x768 .fp8e4m3) (constant S512x768 .f32 0x00000000#32))
      (broadcastTo S512x768 sc broadcasts_S512x1_S512x768)) (broadcastTo S512x768 s broadcasts_S1x768_S512x768))
    (mulf (broadcast S512x768 (Scalar.ofBits .f32 0x40000000#32))
      (matmul dot_S512x32_S32x768_S512x768_1_0_0_1_n_n none t
        (shapeCast S32x768 b shapeCasts_S1x32x768_S32x768 : FVec F S32x768 .bf16) (constant S512x768 .f32 0x00000000#32)))

/-- A tile of the gated product, entry by entry. -/
theorem gateUp_gen (sc : FVec F S512x1 .f32) (cd : FVec F S512x1152 .fp8e4m3) (t : FVec F S512x64 .bf16)
    (w0 : Vec F S1x1152x768 .fp8e4m3) (b0 : Vec F S1x32x768 .bf16) (s0 : Vec F S1x768 .f32)
    (w1 : Vec F S1x1152x768 .fp8e4m3) (b1 : Vec F S1x32x768 .bf16) (s1 : Vec F S1x768 .f32) (i : S512x768.Idx) :
    gateUp sc cd t w0 b0 s0 w1 b1 s1 i = FloatOps.truncf .bf16 bitsLt_bf16_f32 (FloatOps.mulf
      (FloatOps.mulf (half sc cd (extractStridedSlice S512x32 ![0, 0] t slices_S512x64_o0_0_S512x32) w0 b0 s0 i)
        (FloatOps.logistic (half sc cd (extractStridedSlice S512x32 ![0, 0] t slices_S512x64_o0_0_S512x32) w0 b0 s0 i)))
      (half sc cd (extractStridedSlice S512x32 ![0, 32] t slices_S512x64_o0_32_S512x32) w1 b1 s1 i)) := rfl

/-- One half's value, entry by entry. -/
theorem half_gen (sc : FVec F S512x1 .f32) (cd : FVec F S512x1152 .fp8e4m3) (t : FVec F S512x32 .bf16)
    (w : Vec F S1x1152x768 .fp8e4m3) (b : Vec F S1x32x768 .bf16) (s : Vec F S1x768 .f32) (i : S512x768.Idx) :
    half sc cd t w b s i = FloatOps.addf (FloatOps.mulf (FloatOps.mulf
        (matmul dot_S512x1152_S1152x768_S512x768_1_0_0_1_n_n none cd
          (shapeCast S1152x768 w shapeCasts_S1x1152x768_S1152x768 : FVec F S1152x768 .fp8e4m3) (constant S512x768 .f32 0x00000000#32) i)
        (broadcastTo S512x768 sc broadcasts_S512x1_S512x768 i)) (broadcastTo S512x768 s broadcasts_S1x768_S512x768 i))
      (FloatOps.mulf (Scalar.ofBits .f32 0x40000000#32)
        (matmul dot_S512x32_S32x768_S512x768_1_0_0_1_n_n none t
          (shapeCast S32x768 b shapeCasts_S1x32x768_S32x768 : FVec F S32x768 .bf16) (constant S512x768 .f32 0x00000000#32) i)) := rfl

/-- The low-rank activations, entry by entry. -/
theorem low_gen (v1 : FVec F S512x1152 .bf16) (v83 : Vec F S64x1152 .bf16) (i : S512x64.Idx) :
    k0_pay10 v1 v83 i = FloatOps.truncf .bf16 bitsLt_bf16_f32 (matmul dot_S512x1152_S64x1152_S512x64_1_1_0_0_n_n none v1
      (shapeCast S64x1152 v83 shapeCasts_S64x1152_S64x1152 : FVec F S64x1152 .bf16) (constant S512x64 .f32 0x00000000#32) i) := rfl

/-- Loads of the whole blocks read them. -/
theorem wholeX (x0 : Vec F S512x1152 .bf16) : View.ld x0 rx = x0 :=
  View.ld_unit_zero (by funext a; match a with | ⟨0, _⟩ => rfl | ⟨1, _⟩ => rfl) _ _
theorem wholeA (x3 : Vec F S64x1152 .bf16) : View.ld x3 ra = x3 :=
  View.ld_unit_zero (by funext a; match a with | ⟨0, _⟩ => rfl | ⟨1, _⟩ => rfl) _ _

/-- The block as loaded, in its own shape. -/
theorem pay2_eq (v0 : Vec F S512x1152 .bf16) : k0_pay2 v0 = v0 := shapeCast_self _ _
theorem pay3_gen (v0 : Vec F S512x1152 .bf16) (i : S512x1152.Idx) :
    k0_pay3 v0 i = FloatOps.extf .f32 bitsLt_bf16_f32 (k0_pay2 v0 i) := rfl

end Generic

/-- A literal over the extended reals. -/
theorem lit (b : BitVec 32) : Scalar.ofBits (F := Ideal) .f32 b = Ideal.ofBits .f32 b := rfl

/-- An entry of the block at the wider format. -/
theorem wide_apply (v0 : Vec Ideal S512x1152 .bf16) (i : S512x1152.Idx) : (k0_pay3 (F := Ideal) v0 i : EReal) = v0 i :=
  (pay3_gen v0 i).trans (congrFun (pay2_eq v0) i)

/-- The largest magnitude of a row. -/
theorem max_apply (v0 : Vec Ideal S512x1152 .bf16) (p : Fin 512) :
    maxOf (F := Ideal) v0 (ix1 p) = amax fun k => v0 (ix2 p k) := by
  refine (Ideal.multiReduction_maximumf_single _ _ _ _ _ _).trans ?_
  refine congrArg (fun f => Finset.fold max (Ideal.ofBits .f32 0xFF800000#32) f (Finset.univ : Finset (Fin 1152))) (funext fun k => ?_)
  have e : (reduces_S512x1152_S512).lift (ix1 p) k = ix2 p k := by
    funext a; match a with | ⟨0, _⟩ => rfl | ⟨1, _⟩ => rfl
  show max (k0_pay3 (F := Ideal) v0 _ : EReal) (-(k0_pay3 (F := Ideal) v0 _ : EReal)) = _
  rw [wide_apply]
  exact congrArg (fun i => max (v0 i : EReal) (-(v0 i : EReal))) e

/-- The count of a row. -/
theorem count_apply (v0 : Vec Ideal S512x1152 .bf16) (p : Fin 512) :
    countOf (F := Ideal) v0 (ix1 p) = count ((amax fun k => v0 (ix2 p k)) * part) := by
  unfold countOf
  refine (congrFun (multiReductionI_eq_reduceFold .add (aboveOf (F := Ideal) v0) 0#32 reduces_S512x256_S512 rfl) (ix1 p)).trans ?_
  refine (reduceFold_add_eq_sum reduces_S512x256_S512 (0#32 : BitVec 32) (aboveOf (F := Ideal) v0) (ix1 p)).trans ?_
  rw [Shape.Reduces.sum_filter_drop_single]
  refine (zero_add _).trans (Finset.sum_congr rfl fun (k : Fin 256) _ => ?_)
  have e : (reduces_S512x256_S512).lift (ix1 p) k = ix2 p k := by
    funext a; match a with | ⟨0, _⟩ => rfl | ⟨1, _⟩ => rfl
  refine (congrArg (aboveOf (F := Ideal) v0) e).trans ?_
  show (Ideal.cmp .olt (broadcastTo S512x256 (partsOf (F := Ideal) v0) broadcasts_S512x1_S512x256 (ix2 p k))
    (broadcastTo S512x256 (powersOf (F := Ideal)) broadcasts_S1x256_S512x256 (ix2 p k))).setWidth 32 = _
  rw [spread256_apply, repeat256_apply]
  refine congrArg (fun b : BitVec 1 => b.setWidth 32) (congrArg₂ (Ideal.cmp .olt) ?_ ?_)
  · show (shapeCast S512x1 (maxOf (F := Ideal) v0) shapeCasts_S512_S512x1 (ix2 p (0 : Fin 1)) : EReal) * part = _
    rw [column_apply, max_apply]
  · show Ideal.ofBits .f32 (IntOp.shli .vector (iota .tc S1x256 32 [1] iota_S1x256_d1_w32 (ix2 (0 : Fin 1) k)) 23#32) = _
    rw [iota_single_apply]
    rfl

/-- The exponent of a row. -/
theorem exp_apply (v0 : Vec Ideal S512x1152 .bf16) (p : Fin 512) :
    k0_pay4 (F := Ideal) v0 (ix2 p (0 : Fin 1)) = expOf (count ((amax fun k => v0 (ix2 p k)) * part)) := by
  refine (exp_gen v0 _).trans (congrArg expOf ?_)
  exact (column_apply _ p).trans (count_apply v0 p)

/-- The scale of a row. -/
theorem scale_apply (x0 : Vec Ideal S512x1152 .bf16) (p : Fin 512) :
    scaleOf (F := Ideal) x0 (ix2 p (0 : Fin 1)) = kScale (amax fun k => x0 (ix2 p k)) := by
  unfold scaleOf
  rw [wholeX]
  exact (scale_gen x0 _).trans (congrArg (fun e => power (IntOp.addi 127#32 e)) (exp_apply x0 p))

/-- The inverse scale of a row. -/
theorem inv_apply (x0 : Vec Ideal S512x1152 .bf16) (p : Fin 512) :
    invOf (F := Ideal) x0 (ix2 p (0 : Fin 1)) = kInv (amax fun k => x0 (ix2 p k)) :=
  congrArg (fun e => power (IntOp.subi 127#32 e)) (exp_apply x0 p)

/-- The code of an entry. -/
theorem code_apply (x0 : Vec Ideal S512x1152 .bf16) (p : Fin 512) (k : Fin 1152) :
    codesOf (F := Ideal) x0 (ix2 p k) = code (kInv (amax fun k => x0 (ix2 p k))) (x0 (ix2 p k)) := by
  unfold codesOf
  rw [wholeX]
  refine (code_gen x0 (ix2 p k)).trans ?_
  rw [lit, lit, spread1152_apply, inv_apply]
  exact congrArg (code _) (wide_apply x0 (ix2 p k))

/-- The low-rank activation of a row. -/
theorem low_apply (x0 : Vec Ideal S512x1152 .bf16) (x3 : Vec Ideal S64x1152 .bf16) (p : Fin 512) (l : Fin 64) :
    lowOf (F := Ideal) x0 x3 (ix2 p l) = low (fun k => x0 (ix2 p k)) (fun k => x3 (ix2 l k)) := by
  unfold lowOf
  rw [wholeX, wholeA, pay2_eq]
  refine (low_gen x0 x3 (ix2 p l)).trans ?_
  rw [shapeCast_self, show dot_S512x1152_S64x1152_S512x64_1_1_0_0_n_n = DotDims.transposedRhs 512 1152 64 from rfl]
  refine (Ideal.matmul_transposedRhs_apply (φ₁ := .bf16) (φ₂ := .bf16) none x0 x3 _ p l).trans ?_
  rw [show constant (F := Ideal) S512x64 .f32 0x00000000#32 (ix2 p l) = (0 : EReal) from Ideal.ofBits_zero_f32]
  exact zero_add _

/-- The product of codes and weights over a tile. -/
theorem big_apply (x : FVec Ideal S512x1152 .fp8e4m3) (w : FVec Ideal S1152x768 .fp8e4m3) (p : Fin 512) (n : Fin 768) :
    matmul dot_S512x1152_S1152x768_S512x768_1_0_0_1_n_n none x w (constant S512x768 .f32 0x00000000#32) (ix2 p n)
      = ∑ k : Fin 1152, x (ix2 p k) * w (ix2 k n) := by
  rw [show dot_S512x1152_S1152x768_S512x768_1_0_0_1_n_n = DotDims.plain 512 1152 768 from rfl]
  refine (Ideal.matmul_plain_apply none x w _ p n).trans ?_
  rw [show constant (F := Ideal) S512x768 .f32 0x00000000#32 (ix2 p n) = (0 : EReal) from Ideal.ofBits_zero_f32]
  exact zero_add _

/-- The up projection over a tile. -/
theorem updot_apply (x : FVec Ideal S512x32 .bf16) (w : FVec Ideal S32x768 .bf16) (p : Fin 512) (n : Fin 768) :
    matmul dot_S512x32_S32x768_S512x768_1_0_0_1_n_n none x w (constant S512x768 .f32 0x00000000#32) (ix2 p n)
      = ∑ k : Fin 32, x (ix2 p k) * w (ix2 k n) := by
  rw [show dot_S512x32_S32x768_S512x768_1_0_0_1_n_n = DotDims.plain 512 32 768 from rfl]
  refine (Ideal.matmul_plain_apply none x w _ p n).trans ?_
  rw [show constant (F := Ideal) S512x768 .f32 0x00000000#32 (ix2 p n) = (0 : EReal) from Ideal.ofBits_zero_f32]
  exact zero_add _

/-- One half's value at an entry of a tile. -/
theorem half_apply (x0 : Vec Ideal S512x1152 .bf16) (t : FVec Ideal S512x32 .bf16) (A : Fin 32 → Fin 1152 → EReal)
    (w : Vec Ideal S1x1152x768 .fp8e4m3) (b : Vec Ideal S1x32x768 .bf16) (s : Vec Ideal S1x768 .f32) (p : Fin 512) (n : Fin 768)
    (ht : ∀ l, t (ix2 p l) = low (fun k => x0 (ix2 p k)) (A l)) :
    half (F := Ideal) (scaleOf x0) (codesOf x0) t w b s (ix2 p n)
      = pre (fun k => x0 (ix2 p k)) (kScale (amax fun k => x0 (ix2 p k))) (kInv (amax fun k => x0 (ix2 p k)))
          (fun k => w (ix3 (0 : Fin 1) k n)) (s (ix2 (0 : Fin 1) n)) A (fun l => b (ix3 (0 : Fin 1) l n)) := by
  refine (half_gen (F := Ideal) (scaleOf x0) (codesOf x0) t w b s (ix2 p n)).trans ?_
  rw [lit, spread_apply, repeat_apply, scale_apply, big_apply, updot_apply]
  unfold pre
  refine congrArg₂ (fun u v : EReal => u * kScale (amax fun k => x0 (ix2 p k)) * s (ix2 (0 : Fin 1) n) + Ideal.ofBits .f32 0x40000000#32 * v)
    (Finset.sum_congr rfl fun k _ => ?_) (Finset.sum_congr rfl fun l _ => ?_)
  · exact congrArg₂ (fun u v : EReal => u * v) (code_apply x0 p k) (weights_apply w k n)
  · exact congrArg₂ (fun u v : EReal => u * v) (ht l) (up_apply b l n)

/-- A tile of the gated product at an entry. -/
theorem gateUp_apply (x0 : Vec Ideal S512x1152 .bf16) (x3 : Vec Ideal S64x1152 .bf16)
    (w0 : Vec Ideal S1x1152x768 .fp8e4m3) (b0 : Vec Ideal S1x32x768 .bf16) (s0 : Vec Ideal S1x768 .f32)
    (w1 : Vec Ideal S1x1152x768 .fp8e4m3) (b1 : Vec Ideal S1x32x768 .bf16) (s1 : Vec Ideal S1x768 .f32) (p : Fin 512) (n : Fin 768) :
    gateUp (F := Ideal) (scaleOf x0) (codesOf x0) (lowOf x0 x3) w0 b0 s0 w1 b1 s1 (ix2 p n)
      = gate (pre (fun k => x0 (ix2 p k)) (kScale (amax fun k => x0 (ix2 p k))) (kInv (amax fun k => x0 (ix2 p k)))
            (fun k => w0 (ix3 (0 : Fin 1) k n)) (s0 (ix2 (0 : Fin 1) n)) (fun l k => x3 (ix2 (⟨l.val, by omega⟩ : Fin 64) k))
            (fun l => b0 (ix3 (0 : Fin 1) l n)))
          (pre (fun k => x0 (ix2 p k)) (kScale (amax fun k => x0 (ix2 p k))) (kInv (amax fun k => x0 (ix2 p k)))
            (fun k => w1 (ix3 (0 : Fin 1) k n)) (s1 (ix2 (0 : Fin 1) n)) (fun l k => x3 (ix2 (⟨32 + l.val, by omega⟩ : Fin 64) k))
            (fun l => b1 (ix3 (0 : Fin 1) l n))) := by
  refine (gateUp_gen (F := Ideal) (scaleOf x0) (codesOf x0) (lowOf x0 x3) w0 b0 s0 w1 b1 s1 (ix2 p n)).trans ?_
  rw [half_apply x0 _ (fun l k => x3 (ix2 (⟨l.val, by omega⟩ : Fin 64) k)) w0 b0 s0 p n
      (fun l => (low0_apply _ p l).trans (low_apply x0 x3 p _)),
    half_apply x0 _ (fun l k => x3 (ix2 (⟨32 + l.val, by omega⟩ : Fin 64) k)) w1 b1 s1 p n
      (fun l => (low1_apply _ p l).trans (low_apply x0 x3 p _))]
  rfl

/-- The gated product of one row at one column, from the block's row and the whole weights and adapters. -/
noncomputable def rowOut (x : Fin 1152 → EReal) (x1 : Vec Ideal S2x1152x6912 .fp8e4m3) (x2 : Vec Ideal S2x6912 .f32)
    (x3 : Vec Ideal S64x1152 .bf16) (x4 : Vec Ideal S2x32x6912 .bf16) (n : Fin 6912) : EReal :=
  gate (pre x (kScale (amax x)) (kInv (amax x)) (fun k => x1 (ix3 (0 : Fin 2) k n)) (x2 (ix2 (0 : Fin 2) n))
      (fun l k => x3 (ix2 (⟨l.val, by omega⟩ : Fin 64) k)) (fun l => x4 (ix3 (0 : Fin 2) l n)))
    (pre x (kScale (amax x)) (kInv (amax x)) (fun k => x1 (ix3 (1 : Fin 2) k n)) (x2 (ix2 (1 : Fin 2) n))
      (fun l k => x3 (ix2 (⟨32 + l.val, by omega⟩ : Fin 64) k)) (fun l => x4 (ix3 (1 : Fin 2) l n)))

/-- A column tile of the weights of one half, -/
theorem wslice (x1 : Vec Ideal S2x1152x6912 .fp8e4m3) (j : Fin 2) (o : ℕ) (ho : o + 768 ≤ 6912)
    (h : ∀ a, (![j.val, 0, o] : Fin 3 → ℕ) a + S1x1152x768.size a ≤ S2x1152x6912.size a) (k : Fin 1152) (n : Fin 768) :
    View.ld x1 (Rect.unit (s := S2x1152x6912) ![j.val, 0, o] S1x1152x768.size h) (ix3 (0 : Fin 1) k n)
      = x1 (ix3 j k (⟨o + n.val, by omega⟩ : Fin 6912)) := by
  rw [View.ld_unit]
  exact extractStridedSlice_apply _ _ _ _ _ (by
    intro b; match b with | ⟨0, _⟩ => rfl | ⟨1, _⟩ => exact (Nat.zero_add _).symm | ⟨2, _⟩ => rfl)
/-- of its up projection, -/
theorem bslice (x4 : Vec Ideal S2x32x6912 .bf16) (j : Fin 2) (o : ℕ) (ho : o + 768 ≤ 6912)
    (h : ∀ a, (![j.val, 0, o] : Fin 3 → ℕ) a + S1x32x768.size a ≤ S2x32x6912.size a) (l : Fin 32) (n : Fin 768) :
    View.ld x4 (Rect.unit (s := S2x32x6912) ![j.val, 0, o] S1x32x768.size h) (ix3 (0 : Fin 1) l n)
      = x4 (ix3 j l (⟨o + n.val, by omega⟩ : Fin 6912)) := by
  rw [View.ld_unit]
  exact extractStridedSlice_apply _ _ _ _ _ (by
    intro b; match b with | ⟨0, _⟩ => rfl | ⟨1, _⟩ => exact (Nat.zero_add _).symm | ⟨2, _⟩ => rfl)
/-- and of its column scales. -/
theorem sslice (x2 : Vec Ideal S2x6912 .f32) (j : Fin 2) (o : ℕ) (ho : o + 768 ≤ 6912)
    (h : ∀ a, (![j.val, o] : Fin 2 → ℕ) a + S1x768.size a ≤ S2x6912.size a) (n : Fin 768) :
    View.ld x2 (Rect.unit (s := S2x6912) ![j.val, o] S1x768.size h) (ix2 (0 : Fin 1) n)
      = x2 (ix2 j (⟨o + n.val, by omega⟩ : Fin 6912)) := by
  rw [View.ld_unit]
  exact extractStridedSlice_apply _ _ _ _ _ (by intro b; match b with | ⟨0, _⟩ => rfl | ⟨1, _⟩ => rfl)

/-- The tile at column `o` is that part of the row products. -/
theorem tile_apply (x0 : Vec Ideal S512x1152 .bf16) (x1 : Vec Ideal S2x1152x6912 .fp8e4m3) (x2 : Vec Ideal S2x6912 .f32)
    (x3 : Vec Ideal S64x1152 .bf16) (x4 : Vec Ideal S2x32x6912 .bf16) (o : ℕ) (ho : o + 768 ≤ 6912)
    (hy : ∀ a, (![0, o] : Fin 2 → ℕ) a + S512x768.size a ≤ S512x6912.size a)
    (h0 : ∀ a, (![0, 0, o] : Fin 3 → ℕ) a + S1x1152x768.size a ≤ S2x1152x6912.size a)
    (h1 : ∀ a, (![0, 0, o] : Fin 3 → ℕ) a + S1x32x768.size a ≤ S2x32x6912.size a)
    (h2 : ∀ a, (![0, o] : Fin 2 → ℕ) a + S1x768.size a ≤ S2x6912.size a)
    (h3 : ∀ a, (![1, 0, o] : Fin 3 → ℕ) a + S1x1152x768.size a ≤ S2x1152x6912.size a)
    (h4 : ∀ a, (![1, 0, o] : Fin 3 → ℕ) a + S1x32x768.size a ≤ S2x32x6912.size a)
    (h5 : ∀ a, (![1, o] : Fin 2 → ℕ) a + S1x768.size a ≤ S2x6912.size a) (x : S512x768.Idx) :
    gateUp (F := Ideal) (scaleOf x0) (codesOf x0) (lowOf x0 x3)
        (View.ld x1 (Rect.unit (s := S2x1152x6912) ![0, 0, o] S1x1152x768.size h0))
        (View.ld x4 (Rect.unit (s := S2x32x6912) ![0, 0, o] S1x32x768.size h1))
        (View.ld x2 (Rect.unit (s := S2x6912) ![0, o] S1x768.size h2))
        (View.ld x1 (Rect.unit (s := S2x1152x6912) ![1, 0, o] S1x1152x768.size h3))
        (View.ld x4 (Rect.unit (s := S2x32x6912) ![1, 0, o] S1x32x768.size h4))
        (View.ld x2 (Rect.unit (s := S2x6912) ![1, o] S1x768.size h5)) x
      = (fun y : S512x6912.Idx => rowOut (fun k => x0 (ix2 (y 0 : Fin 512) k)) x1 x2 x3 x4 (y 1)) ((ry o hy).emb x) := by
  obtain ⟨p, n, rfl⟩ : ∃ (p : Fin 512) (n : Fin 768), x = ix2 p n := ⟨x 0, x 1, eq_ix2 x⟩
  have e : (ry o hy).emb (ix2 p n) = ix2 p (⟨o + n.val, by omega⟩ : Fin 6912) := by
    funext a
    match a with
    | ⟨0, _⟩ => exact Fin.ext (show 0 + 1 * p.val = p.val by omega)
    | ⟨1, _⟩ => exact Fin.ext (show o + 1 * n.val = o + n.val by omega)
  rw [e]
  refine (gateUp_apply x0 x3 _ _ _ _ _ _ p n).trans ?_
  refine congrArg₂ gate ?_ ?_
  · exact congr (congr (congr (congrArg (pre _ _ _) (funext fun k => wslice x1 0 o ho h0 k n)) (sslice x2 0 o ho h2 n)) rfl)
      (funext fun l => bslice x4 0 o ho h1 l n)
  · exact congr (congr (congr (congrArg (pre _ _ _) (funext fun k => wslice x1 1 o ho h3 k n)) (sslice x2 1 o ho h5 n)) rfl)
      (funext fun l => bslice x4 1 o ho h4 l n)

/-- The output block at an entry. -/
theorem out_apply (x0 : Vec Ideal S512x1152 .bf16) (x1 : Vec Ideal S2x1152x6912 .fp8e4m3) (x2 : Vec Ideal S2x6912 .f32)
    (x3 : Vec Ideal S64x1152 .bf16) (x4 : Vec Ideal S2x32x6912 .bf16) (y : S512x6912.Idx) :
    outY (F := Ideal) x0 x1 x2 x3 x4 y = rowOut (fun k => x0 (ix2 (y 0 : Fin 512) k)) x1 x2 x3 x4 (y 1) := by
  unfold outY
  refine View.canon_apply_of_pieces (Val := Elt Ideal) (e := .bf16) (fun y : S512x6912.Idx => rowOut (fun k => x0 (ix2 (y 0 : Fin 512) k)) x1 x2 x3 x4 (y 1)) _ ?_ y
    (coverY _ _ _ _ _ _ _ _ _ y)
  intro q hq x
  simp only [List.mem_cons, List.not_mem_nil, or_false] at hq
  rcases hq with rfl | rfl | rfl | rfl | rfl | rfl | rfl | rfl | rfl
  · exact tile_apply x0 x1 x2 x3 x4 6144 (by norm_num) inb_S512x6912_S512x768_0_6144 inb_S2x1152x6912_S1x1152x768_0_0_6144 inb_S2x32x6912_S1x32x768_0_0_6144 inb_S2x6912_S1x768_0_6144 inb_S2x1152x6912_S1x1152x768_1_0_6144 inb_S2x32x6912_S1x32x768_1_0_6144 inb_S2x6912_S1x768_1_6144 x
  · exact tile_apply x0 x1 x2 x3 x4 5376 (by norm_num) inb_S512x6912_S512x768_0_5376 inb_S2x1152x6912_S1x1152x768_0_0_5376 inb_S2x32x6912_S1x32x768_0_0_5376 inb_S2x6912_S1x768_0_5376 inb_S2x1152x6912_S1x1152x768_1_0_5376 inb_S2x32x6912_S1x32x768_1_0_5376 inb_S2x6912_S1x768_1_5376 x
  · exact tile_apply x0 x1 x2 x3 x4 4608 (by norm_num) inb_S512x6912_S512x768_0_4608 inb_S2x1152x6912_S1x1152x768_0_0_4608 inb_S2x32x6912_S1x32x768_0_0_4608 inb_S2x6912_S1x768_0_4608 inb_S2x1152x6912_S1x1152x768_1_0_4608 inb_S2x32x6912_S1x32x768_1_0_4608 inb_S2x6912_S1x768_1_4608 x
  · exact tile_apply x0 x1 x2 x3 x4 3840 (by norm_num) inb_S512x6912_S512x768_0_3840 inb_S2x1152x6912_S1x1152x768_0_0_3840 inb_S2x32x6912_S1x32x768_0_0_3840 inb_S2x6912_S1x768_0_3840 inb_S2x1152x6912_S1x1152x768_1_0_3840 inb_S2x32x6912_S1x32x768_1_0_3840 inb_S2x6912_S1x768_1_3840 x
  · exact tile_apply x0 x1 x2 x3 x4 3072 (by norm_num) inb_S512x6912_S512x768_0_3072 inb_S2x1152x6912_S1x1152x768_0_0_3072 inb_S2x32x6912_S1x32x768_0_0_3072 inb_S2x6912_S1x768_0_3072 inb_S2x1152x6912_S1x1152x768_1_0_3072 inb_S2x32x6912_S1x32x768_1_0_3072 inb_S2x6912_S1x768_1_3072 x
  · exact tile_apply x0 x1 x2 x3 x4 2304 (by norm_num) inb_S512x6912_S512x768_0_2304 inb_S2x1152x6912_S1x1152x768_0_0_2304 inb_S2x32x6912_S1x32x768_0_0_2304 inb_S2x6912_S1x768_0_2304 inb_S2x1152x6912_S1x1152x768_1_0_2304 inb_S2x32x6912_S1x32x768_1_0_2304 inb_S2x6912_S1x768_1_2304 x
  · exact tile_apply x0 x1 x2 x3 x4 1536 (by norm_num) inb_S512x6912_S512x768_0_1536 inb_S2x1152x6912_S1x1152x768_0_0_1536 inb_S2x32x6912_S1x32x768_0_0_1536 inb_S2x6912_S1x768_0_1536 inb_S2x1152x6912_S1x1152x768_1_0_1536 inb_S2x32x6912_S1x32x768_1_0_1536 inb_S2x6912_S1x768_1_1536 x
  · exact tile_apply x0 x1 x2 x3 x4 768 (by norm_num) inb_S512x6912_S512x768_0_768 inb_S2x1152x6912_S1x1152x768_0_0_768 inb_S2x32x6912_S1x32x768_0_0_768 inb_S2x6912_S1x768_0_768 inb_S2x1152x6912_S1x1152x768_1_0_768 inb_S2x32x6912_S1x32x768_1_0_768 inb_S2x6912_S1x768_1_768 x
  · exact tile_apply x0 x1 x2 x3 x4 0 (by norm_num) inb_S512x6912_S512x768_0_0 inb_S2x1152x6912_S1x1152x768_0_0_0 inb_S2x32x6912_S1x32x768_0_0_0 inb_S2x6912_S1x768_0_0 inb_S2x1152x6912_S1x1152x768_1_0_0 inb_S2x32x6912_S1x32x768_1_0_0 inb_S2x6912_S1x768_1_0 x

/-- The lane of scales a block stores, at an index. -/
theorem lane_apply (x0 : Vec Ideal S512x1152 .bf16) (p : Fin 512) :
    k0_pay9 (F := Ideal) (scaleOf x0) (ix2 (0 : Fin 1) p) = kScale (amax fun k => x0 (ix2 p k)) := by
  refine Eq.trans ?_ (scale_apply x0 p)
  unfold k0_pay9
  refine (extractStridedSlice_apply _ _ _ (ix2 (0 : Fin 1) p) (ix2 (0 : Fin 128) p)
    (by intro b; match b with | ⟨0, _⟩ => rfl | ⟨1, _⟩ => exact (Nat.zero_add _).symm)).trans ?_
  refine (transpose_apply _ _ _ (ix2 (0 : Fin 128) p) (ix2 p (0 : Fin 128))
    (by intro b; match b with | ⟨0, _⟩ => rfl | ⟨1, _⟩ => rfl)).trans ?_
  refine (broadcastTo_apply _ _ (ix2 p (0 : Fin 128)) (ix2 p (0 : Fin 1))
    (by intro a; match a with | ⟨0, _⟩ => rfl | ⟨1, _⟩ => rfl)).trans ?_
  rw [shapeCast_self]

end Cert.KernelIdeal.At
-- ==== Proof.ReferenceValue.lean ====
module

public import Idealize.ShloMosaic.Lib.MatmulPlain
public import Idealize.ShloMosaic.Lib.Pipeline.Value
public import proofs.«01_k».proof.Proof.Spec
public import proofs.«01_k».proof.Proof.Gen.ReferenceIdeal.Value

/-!
  The reference's three results read at an index, in terms of the row functions of `Spec`.
-/

@[expose] public section

namespace Cert.ReferenceIdeal.At

open Idealize.ShloMosaic Idealize.ShloMosaic.ValueIdx
open Cert.ReferenceIdeal Cert.ReferenceIdeal.Gen Cert.Scales Cert.Spec
open scoped BigOperators

/-- The block a flattened row lies in. -/
abbrev hi (r : Fin 16384) : Fin 16 := ⟨r.val / 1024, by omega⟩
/-- A flattened row's place in its block. -/
abbrev lo (r : Fin 16384) : Fin 1024 := ⟨r.val % 1024, by omega⟩

/-- The row maximum as the reference computes it. -/
theorem max_apply (a0 : FVec Ideal S16x1024x1152 .f32) (p : Fin 16) (q : Fin 1024) :
    multiReduction .maximumf [2] S16x1024 (absf a0) 0xFF800000#32 reduces_S16x1024x1152_S16x1024 (.inl rfl) rfl (ix2 p q)
      = amax fun k => a0 (ix3 p q k) := by
  refine (Ideal.multiReduction_maximumf_single _ _ _ _ _ _).trans ?_
  refine congrArg (fun f => Finset.fold max (Ideal.ofBits .f32 0xFF800000#32) f (Finset.univ : Finset (Fin 1152))) (funext fun k => ?_)
  have e : (reduces_S16x1024x1152_S16x1024).lift (ix2 p q) k = ix3 p q k := by
    funext a; match a with | ⟨0, _⟩ => rfl | ⟨1, _⟩ => rfl | ⟨2, _⟩ => rfl
  exact congrArg (fun i => max (a0 i) (-a0 i)) e

section Generic
variable {F : FTy → Type} [FloatOps F]

/-- The exponent of a row of largest magnitude `m`, in the operations of any number type. -/
def expG (m : F .f32) : F .f32 :=
  Scalar.select (FloatOps.cmpf .oeq m (Scalar.ofBits .f32 0x00000000#32)) (Scalar.ofBits .f32 0x00000000#32)
    (FloatOps.addf (FloatOps.floor (FloatOps.divf (FloatOps.log (FloatOps.mulf m (Scalar.ofBits .f32 0x3B124925#32)))
      (Scalar.log (Scalar.ofBits .f32 0x40000000#32)))) (Scalar.ofBits .f32 0x3F800000#32))

/-- The exponents, row by row. -/
theorem exp_gen (v0 : Vec F S16x1024x1152 .bf16) (i : S16x1024.Idx) :
    k0_pay3 v0 i = expG (multiReduction .maximumf [2] S16x1024 (absf (k0_pay2 v0)) 0xFF800000#32 reduces_S16x1024x1152_S16x1024 (.inl rfl) rfl i) :=
  rfl

/-- The scales, row by row. -/
theorem scale_gen (v0 : Vec F S16x1024x1152 .bf16) (i : S16x1024.Idx) : k0_pay4 v0 i = FloatOps.exp2 (k0_pay3 v0 i) := rfl

/-- The inverse scales, as a three-axis column. -/
noncomputable def invCol (v0 : Vec F S16x1024x1152 .bf16) : FVec F S16x1024x1 .f32 :=
  shapeCast S16x1024x1 (exp2 (subf (broadcast S16x1024 (Scalar.ofBits .f32 0x00000000#32)) (k0_pay3 v0))) shapeCasts_S16x1024_S16x1024x1

/-- The codes, entry by entry. -/
theorem code_gen (v0 : Vec F S16x1024x1152 .bf16) (i : S16x1024x1152.Idx) :
    k0_pay5 v0 i = FloatOps.truncf .fp8e4m3 bitsLt_fp8e4m3_f32 (FloatOps.minimumf (Scalar.ofBits .f32 0x43E00000#32)
      (FloatOps.maximumf (Scalar.ofBits .f32 0xC3E00000#32)
        (FloatOps.mulf (k0_pay2 v0 i) (broadcastTo S16x1024x1152 (invCol v0) broadcasts_S16x1024x1_S16x1024x1152 i)))) :=
  rfl

/-- A column spread over a row's entries. -/
theorem fan_apply {e : EltTy} (v : Vec F S16x1024x1 e) (p : Fin 16) (q : Fin 1024) (k : Fin 1152) :
    broadcastTo S16x1024x1152 v broadcasts_S16x1024x1_S16x1024x1152 (ix3 p q k) = v (ix3 p q (0 : Fin 1)) :=
  broadcastTo_apply _ _ _ _ (by intro a; match a with | ⟨0, _⟩ => rfl | ⟨1, _⟩ => rfl | ⟨2, _⟩ => rfl)

/-- The inverse scale of a row. -/
theorem invCol_apply (v0 : Vec F S16x1024x1152 .bf16) (p : Fin 16) (q : Fin 1024) :
    invCol v0 (ix3 p q (0 : Fin 1)) = FloatOps.exp2 (FloatOps.subf (Scalar.ofBits .f32 0x00000000#32) (k0_pay3 v0 (ix2 p q))) :=
  shapeCast_apply _ _ _ (ix2 p q) (by
    rw [Shape.rowMajor_val_two, Shape.rowMajor_val_three]
    show p.val * 1024 + q.val = (p.val * 1024 + q.val) * 1 + 0
    omega)

/-- The rescaled product of codes and weights of the first half. -/
theorem base_gen (v0 : Vec F S16x1024x1152 .bf16) (w : Vec F S1152x1x6912 .fp8e4m3) (s : Vec F S1x6912 .f32) (i : S16384x6912.Idx) :
    k0_pay6 v0 w s i = FloatOps.mulf (FloatOps.mulf
      (matmul dot_S16384x1152_S1152x6912_S16384x6912_1_0_0_1_n_n none
        (shapeCast S16384x1152 (k0_pay5 v0) shapeCasts_S16x1024x1152_S16384x1152 : FVec F S16384x1152 .fp8e4m3)
        (shapeCast S1152x6912 w shapeCasts_S1152x1x6912_S1152x6912 : FVec F S1152x6912 .fp8e4m3) (constant S16384x6912 .f32 0x00000000#32) i)
      (broadcastTo S16384x6912 (shapeCast S16384x1 (k0_pay4 v0) shapeCasts_S16x1024_S16384x1) broadcasts_S16384x1_S16384x6912 i))
      (broadcastTo S16384x6912 s broadcasts_S1x6912_S16384x6912 i) :=
  rfl

/-- The low-rank update of one half. -/
def adapt (x : FVec F S16384x1152 .bf16) (a : Vec F S1x1152x32 .bf16) (b : Vec F S1x32x6912 .bf16) : FVec F S16384x6912 .f32 :=
  matmul dot_S16384x32_S32x6912_S16384x6912_1_0_0_1_n_n none
    (truncf .bf16 (matmul dot_S16384x1152_S1152x32_S16384x32_1_0_0_1_n_n none x
      (shapeCast S1152x32 a shapeCasts_S1x1152x32_S1152x32 : FVec F S1152x32 .bf16) (constant S16384x32 .f32 0x00000000#32)) bitsLt_bf16_f32)
    (shapeCast S32x6912 b shapeCasts_S1x32x6912_S32x6912 : FVec F S32x6912 .bf16) (constant S16384x6912 .f32 0x00000000#32)

/-- The gate of two values. -/
def gateG (p q : F .f32) : F .bf16 :=
  FloatOps.truncf .bf16 bitsLt_bf16_f32 (FloatOps.mulf (FloatOps.mulf p (FloatOps.logistic p)) q)

/-- The gated product, entry by entry. -/
theorem gate_gen (v0 : Vec F S16x1024x1152 .bf16) (sc : FVec F S16x1024 .f32) (cd : FVec F S16x1024x1152 .fp8e4m3)
    (base : FVec F S16384x6912 .f32) (x : FVec F S16384x1152 .bf16) (a : Vec F S1x1152x32 .bf16) (b : Vec F S1x32x6912 .bf16)
    (w : Vec F S1152x1x6912 .fp8e4m3) (s : Vec F S1x6912 .f32) (a' : Vec F S1x1152x32 .bf16) (b' : Vec F S1x32x6912 .bf16)
    (i : S16384x6912.Idx) :
    k0_pay8 v0 sc cd base x a b w s a' b' i = gateG
      (FloatOps.addf (base i) (FloatOps.mulf (Scalar.ofBits .f32 0x40000000#32) (adapt x a b i)))
      (FloatOps.addf (FloatOps.mulf (FloatOps.mulf
        (matmul dot_S16384x1152_S1152x6912_S16384x6912_1_0_0_1_n_n none
          (shapeCast S16384x1152 cd shapeCasts_S16x1024x1152_S16384x1152 : FVec F S16384x1152 .fp8e4m3)
          (shapeCast S1152x6912 w shapeCasts_S1152x1x6912_S1152x6912 : FVec F S1152x6912 .fp8e4m3) (constant S16384x6912 .f32 0x00000000#32) i)
        (broadcastTo S16384x6912 (shapeCast S16384x1 sc shapeCasts_S16x1024_S16384x1) broadcasts_S16384x1_S16384x6912 i))
        (broadcastTo S16384x6912 s broadcasts_S1x6912_S16384x6912 i))
        (FloatOps.mulf (Scalar.ofBits .f32 0x40000000#32)
          (adapt (shapeCast S16384x1152 v0 shapeCasts_S16x1024x1152_S16384x1152) a' b' i))) :=
  rfl

end Generic

/-- A literal over the extended reals, -/
theorem lit (b : BitVec 32) : Scalar.ofBits (F := Ideal) .f32 b = Ideal.ofBits .f32 b := rfl
/-- and the logarithm of one. -/
theorem logLit (v : EReal) : Scalar.log (F := Ideal) (φ := .f32) v = Ideal.log v := rfl

/-- The exponent over the extended reals. -/
theorem expG_eq (m : EReal) : expG (F := Ideal) m = rExp m := by
  unfold expG rExp part
  simp only [lit, logLit]
  rfl

/-- The exponent of a row. -/
theorem exp_apply (a0 : Vec Ideal S16x1024x1152 .bf16) (p : Fin 16) (q : Fin 1024) :
    k0_pay3 (F := Ideal) a0 (ix2 p q) = rExp (amax fun k => a0 (ix3 p q k)) :=
  (exp_gen a0 (ix2 p q)).trans ((congrArg (expG (F := Ideal)) (max_apply (k0_pay2 (F := Ideal) a0) p q)).trans (expG_eq _))

/-- The scale of a row. -/
theorem scale_apply (a0 : Vec Ideal S16x1024x1152 .bf16) (p : Fin 16) (q : Fin 1024) :
    k0_pay4 (F := Ideal) a0 (ix2 p q) = rScale (amax fun k => a0 (ix3 p q k)) :=
  (scale_gen a0 (ix2 p q)).trans (congrArg (FloatOps.exp2 (F := Ideal) (φ := .f32)) (exp_apply a0 p q))

/-- The inverse scale of a row. -/
theorem inv_apply (a0 : Vec Ideal S16x1024x1152 .bf16) (p : Fin 16) (q : Fin 1024) :
    invCol (F := Ideal) a0 (ix3 p q (0 : Fin 1)) = rInv (amax fun k => a0 (ix3 p q k)) := by
  refine (invCol_apply a0 p q).trans ?_
  rw [lit]
  exact congrArg (fun e => Ideal.exp2 (Ideal.ofBits .f32 0x00000000#32 - e)) (exp_apply a0 p q)

/-- The code of an entry. -/
theorem code_apply (a0 : Vec Ideal S16x1024x1152 .bf16) (p : Fin 16) (q : Fin 1024) (k : Fin 1152) :
    k0_pay5 (F := Ideal) a0 (ix3 p q k) = code (rInv (amax fun k => a0 (ix3 p q k))) (a0 (ix3 p q k)) := by
  refine (code_gen a0 (ix3 p q k)).trans ?_
  rw [lit, lit]
  exact congrArg (fun v => code v (a0 (ix3 p q k))) ((fan_apply (F := Ideal) (e := .f32) (invCol (F := Ideal) a0) p q k).trans (inv_apply a0 p q))

/-- The rows flattened. -/
theorem rows_apply {e : EltTy} (v : Vec Ideal S16x1024x1152 e) (r : Fin 16384) (k : Fin 1152) :
    shapeCast S16384x1152 v shapeCasts_S16x1024x1152_S16384x1152 (ix2 r k) = v (ix3 (hi r) (lo r) k) :=
  shapeCast_apply _ _ _ _ (by
    rw [Shape.rowMajor_val_two, Shape.rowMajor_val_three]
    show (r.val / 1024 * 1024 + r.val % 1024) * 1152 + k.val = r.val * 1152 + k.val
    omega)

/-- The scales flattened to a column. -/
theorem column_apply {e : EltTy} (v : Vec Ideal S16x1024 e) (r : Fin 16384) :
    shapeCast S16384x1 v shapeCasts_S16x1024_S16384x1 (ix2 r (0 : Fin 1)) = v (ix2 (hi r) (lo r)) :=
  shapeCast_apply _ _ _ _ (by
    rw [Shape.rowMajor_val_two, Shape.rowMajor_val_two]
    show r.val / 1024 * 1024 + r.val % 1024 = r.val * 1 + 0
    omega)

/-- The weights of one half as a matrix. -/
theorem weights_apply {e : EltTy} (v : Vec Ideal S1152x1x6912 e) (k : Fin 1152) (n : Fin 6912) :
    shapeCast S1152x6912 v shapeCasts_S1152x1x6912_S1152x6912 (ix2 k n) = v (ix3 k (0 : Fin 1) n) :=
  shapeCast_apply _ _ _ _ (by
    rw [Shape.rowMajor_val_two, Shape.rowMajor_val_three]
    show (k.val * 1 + 0) * 6912 + n.val = k.val * 6912 + n.val
    omega)

/-- The down projection of one half as a matrix. -/
theorem down_apply {e : EltTy} (v : Vec Ideal S1x1152x32 e) (k : Fin 1152) (l : Fin 32) :
    shapeCast S1152x32 v shapeCasts_S1x1152x32_S1152x32 (ix2 k l) = v (ix3 (0 : Fin 1) k l) :=
  shapeCast_apply _ _ _ _ (by
    rw [Shape.rowMajor_val_two, Shape.rowMajor_val_three]
    show (0 * 1152 + k.val) * 32 + l.val = k.val * 32 + l.val
    omega)

/-- The up projection of one half as a matrix. -/
theorem up_apply {e : EltTy} (v : Vec Ideal S1x32x6912 e) (l : Fin 32) (n : Fin 6912) :
    shapeCast S32x6912 v shapeCasts_S1x32x6912_S32x6912 (ix2 l n) = v (ix3 (0 : Fin 1) l n) :=
  shapeCast_apply _ _ _ _ (by
    rw [Shape.rowMajor_val_two, Shape.rowMajor_val_three]
    show (0 * 32 + l.val) * 6912 + n.val = l.val * 6912 + n.val
    omega)

/-- A column spread over the columns of the result. -/
theorem spread_apply {e : EltTy} (v : Vec Ideal S16384x1 e) (r : Fin 16384) (n : Fin 6912) :
    broadcastTo S16384x6912 v broadcasts_S16384x1_S16384x6912 (ix2 r n) = v (ix2 r (0 : Fin 1)) :=
  broadcastTo_apply _ _ _ _ (by intro a; match a with | ⟨0, _⟩ => rfl | ⟨1, _⟩ => rfl)

/-- A row spread over the rows of the result. -/
theorem repeat_apply {e : EltTy} (v : Vec Ideal S1x6912 e) (r : Fin 16384) (n : Fin 6912) :
    broadcastTo S16384x6912 v broadcasts_S1x6912_S16384x6912 (ix2 r n) = v (ix2 (0 : Fin 1) n) :=
  broadcastTo_apply _ _ _ _ (by intro a; match a with | ⟨0, _⟩ => rfl | ⟨1, _⟩ => rfl)

/-- The product of codes and weights. -/
theorem big_apply (x : FVec Ideal S16384x1152 .fp8e4m3) (w : FVec Ideal S1152x6912 .fp8e4m3) (r : Fin 16384) (n : Fin 6912) :
    matmul dot_S16384x1152_S1152x6912_S16384x6912_1_0_0_1_n_n none x w (constant S16384x6912 .f32 0x00000000#32) (ix2 r n)
      = ∑ k : Fin 1152, x (ix2 r k) * w (ix2 k n) := by
  rw [show dot_S16384x1152_S1152x6912_S16384x6912_1_0_0_1_n_n = DotDims.plain 16384 1152 6912 from rfl]
  refine (Ideal.matmul_plain_apply none x w _ r n).trans ?_
  rw [show constant (F := Ideal) S16384x6912 .f32 0x00000000#32 (ix2 r n) = (0 : EReal) from Ideal.ofBits_zero_f32]
  exact zero_add _

/-- The down projection's product. -/
theorem lowdot_apply (x : FVec Ideal S16384x1152 .bf16) (w : FVec Ideal S1152x32 .bf16) (r : Fin 16384) (n : Fin 32) :
    matmul dot_S16384x1152_S1152x32_S16384x32_1_0_0_1_n_n none x w (constant S16384x32 .f32 0x00000000#32) (ix2 r n)
      = ∑ k : Fin 1152, x (ix2 r k) * w (ix2 k n) := by
  rw [show dot_S16384x1152_S1152x32_S16384x32_1_0_0_1_n_n = DotDims.plain 16384 1152 32 from rfl]
  refine (Ideal.matmul_plain_apply none x w _ r n).trans ?_
  rw [show constant (F := Ideal) S16384x32 .f32 0x00000000#32 (ix2 r n) = (0 : EReal) from Ideal.ofBits_zero_f32]
  exact zero_add _

/-- The up projection's product. -/
theorem updot_apply (x : FVec Ideal S16384x32 .bf16) (w : FVec Ideal S32x6912 .bf16) (r : Fin 16384) (n : Fin 6912) :
    matmul dot_S16384x32_S32x6912_S16384x6912_1_0_0_1_n_n none x w (constant S16384x6912 .f32 0x00000000#32) (ix2 r n)
      = ∑ k : Fin 32, x (ix2 r k) * w (ix2 k n) := by
  rw [show dot_S16384x32_S32x6912_S16384x6912_1_0_0_1_n_n = DotDims.plain 16384 32 6912 from rfl]
  refine (Ideal.matmul_plain_apply none x w _ r n).trans ?_
  rw [show constant (F := Ideal) S16384x6912 .f32 0x00000000#32 (ix2 r n) = (0 : EReal) from Ideal.ofBits_zero_f32]
  exact zero_add _

/-- The low-rank update read at an index. -/
theorem adapt_apply (x : FVec Ideal S16384x1152 .bf16) (a : Vec Ideal S1x1152x32 .bf16) (b : Vec Ideal S1x32x6912 .bf16)
    (r : Fin 16384) (n : Fin 6912) :
    adapt (F := Ideal) x a b (ix2 r n)
      = ∑ l, low (fun k => x (ix2 r k)) (fun k => a (ix3 (0 : Fin 1) k l)) * b (ix3 (0 : Fin 1) l n) := by
  refine (updot_apply _ _ r n).trans (Finset.sum_congr rfl fun l _ => ?_)
  refine congrArg₂ (· * ·) ((lowdot_apply x _ r l).trans (Finset.sum_congr rfl fun k _ => ?_)) (up_apply b l n)
  exact congrArg (x (ix2 r k) * ·) (down_apply a k l)

/-- A rescaled product of codes and weights read at an index. -/
theorem base_apply (cd : FVec Ideal S16x1024x1152 .fp8e4m3) (sc : FVec Ideal S16x1024 .f32) (w : Vec Ideal S1152x1x6912 .fp8e4m3)
    (s : Vec Ideal S1x6912 .f32) (r : Fin 16384) (n : Fin 6912) :
    (matmul dot_S16384x1152_S1152x6912_S16384x6912_1_0_0_1_n_n none
          (shapeCast S16384x1152 cd shapeCasts_S16x1024x1152_S16384x1152 : FVec Ideal S16384x1152 .fp8e4m3)
          (shapeCast S1152x6912 w shapeCasts_S1152x1x6912_S1152x6912 : FVec Ideal S1152x6912 .fp8e4m3)
          (constant S16384x6912 .f32 0x00000000#32) (ix2 r n) : EReal)
        * broadcastTo S16384x6912 (shapeCast S16384x1 sc shapeCasts_S16x1024_S16384x1) broadcasts_S16384x1_S16384x6912 (ix2 r n)
        * broadcastTo S16384x6912 s broadcasts_S1x6912_S16384x6912 (ix2 r n)
      = (∑ k : Fin 1152, (cd (ix3 (hi r) (lo r) k) : EReal) * w (ix3 k (0 : Fin 1) n)) * sc (ix2 (hi r) (lo r)) * s (ix2 (0 : Fin 1) n) := by
  have h1 : broadcastTo S16384x6912 (shapeCast S16384x1 sc shapeCasts_S16x1024_S16384x1) broadcasts_S16384x1_S16384x6912 (ix2 r n)
      = sc (ix2 (hi r) (lo r)) := (spread_apply (e := .f32) _ r n).trans (column_apply (e := .f32) sc r)
  have h2 : broadcastTo S16384x6912 s broadcasts_S1x6912_S16384x6912 (ix2 r n) = s (ix2 (0 : Fin 1) n) := repeat_apply (e := .f32) s r n
  rw [h1, h2]
  refine congrArg (fun v : EReal => v * sc (ix2 (hi r) (lo r)) * s (ix2 (0 : Fin 1) n)) ?_
  refine (big_apply _ _ r n).trans (Finset.sum_congr rfl fun k _ => ?_)
  exact congrArg₂ (· * ·) (rows_apply (e := .fp8e4m3) cd r k) (weights_apply w k n)

/-- A load of the whole array reads it. -/
theorem whole (a0 : Vec Ideal S16x1024x1152 .bf16) : View.ld a0 r0_0 = a0 :=
  View.ld_unit_zero (by funext a; match a with | ⟨0, _⟩ => rfl | ⟨1, _⟩ => rfl | ⟨2, _⟩ => rfl) _ _

/-- The reference's scales: each row's scale. -/
theorem scales (a0 : Vec Ideal S16x1024x1152 .bf16) (a1 : Vec Ideal S1152x2x6912 .fp8e4m3) (a2 : Vec Ideal S2x6912 .f32)
    (a3 : Vec Ideal S2x1152x32 .bf16) (a4 : Vec Ideal S2x32x6912 .bf16) (p : Fin 16) (q : Fin 1024) :
    Value.G7 (F := Ideal) a0 a1 a2 a3 a4 (ix2 p q) = rScale (amax fun k => a0 (ix3 p q k)) := by
  show k0_pay4 (F := Ideal) (View.ld a0 r0_0) (ix2 p q) = _
  rw [whole]
  exact scale_apply a0 p q

/-- The reference's codes. -/
theorem codes (a0 : Vec Ideal S16x1024x1152 .bf16) (a1 : Vec Ideal S1152x2x6912 .fp8e4m3) (a2 : Vec Ideal S2x6912 .f32)
    (a3 : Vec Ideal S2x1152x32 .bf16) (a4 : Vec Ideal S2x32x6912 .bf16) (r : Fin 16384) (k : Fin 1152) :
    Value.G6 (F := Ideal) a0 a1 a2 a3 a4 (ix2 r k)
      = code (rInv (amax fun k => a0 (ix3 (hi r) (lo r) k))) (a0 (ix3 (hi r) (lo r) k)) := by
  show shapeCast S16384x1152 (k0_pay5 (F := Ideal) (View.ld a0 r0_0)) shapeCasts_S16x1024x1152_S16384x1152 (ix2 r k) = _
  rw [whole]
  exact (rows_apply (e := .fp8e4m3) _ r k).trans (code_apply a0 _ _ k)

/-- The weights of the first half. -/
theorem w0 (a : Vec Ideal S1152x2x6912 .fp8e4m3) (k : Fin 1152) (n : Fin 6912) : View.ld a r0_1 (ix3 k (0 : Fin 1) n) = a (ix3 k (0 : Fin 2) n) := by
  rw [View.ld_unit]
  exact extractStridedSlice_apply _ _ _ _ _ (by intro b; match b with | ⟨0, _⟩ => exact (Nat.zero_add _).symm | ⟨1, _⟩ => rfl | ⟨2, _⟩ => exact (Nat.zero_add _).symm)

/-- The weight scales of the first half. -/
theorem s0 (a : Vec Ideal S2x6912 .f32) (n : Fin 6912) : View.ld a r0_2 (ix2 (0 : Fin 1) n) = a (ix2 (0 : Fin 2) n) := by
  rw [View.ld_unit]
  exact extractStridedSlice_apply _ _ _ _ _ (by intro b; match b with | ⟨0, _⟩ => rfl | ⟨1, _⟩ => exact (Nat.zero_add _).symm)

/-- The down projection of the first half. -/
theorem d0 (a : Vec Ideal S2x1152x32 .bf16) (k : Fin 1152) (l : Fin 32) : View.ld a r0_3 (ix3 (0 : Fin 1) k l) = a (ix3 (0 : Fin 2) k l) := by
  rw [View.ld_unit]
  exact extractStridedSlice_apply _ _ _ _ _ (by intro b; match b with | ⟨0, _⟩ => rfl | ⟨1, _⟩ => exact (Nat.zero_add _).symm | ⟨2, _⟩ => exact (Nat.zero_add _).symm)

/-- The up projection of the first half. -/
theorem u0 (a : Vec Ideal S2x32x6912 .bf16) (l : Fin 32) (n : Fin 6912) : View.ld a r0_4 (ix3 (0 : Fin 1) l n) = a (ix3 (0 : Fin 2) l n) := by
  rw [View.ld_unit]
  exact extractStridedSlice_apply _ _ _ _ _ (by intro b; match b with | ⟨0, _⟩ => rfl | ⟨1, _⟩ => exact (Nat.zero_add _).symm | ⟨2, _⟩ => exact (Nat.zero_add _).symm)

/-- The weights of the second half. -/
theorem w1 (a : Vec Ideal S1152x2x6912 .fp8e4m3) (k : Fin 1152) (n : Fin 6912) : View.ld a r0_5 (ix3 k (0 : Fin 1) n) = a (ix3 k (1 : Fin 2) n) := by
  rw [View.ld_unit]
  exact extractStridedSlice_apply _ _ _ _ _ (by intro b; match b with | ⟨0, _⟩ => exact (Nat.zero_add _).symm | ⟨1, _⟩ => rfl | ⟨2, _⟩ => exact (Nat.zero_add _).symm)

/-- The weight scales of the second half. -/
theorem s1 (a : Vec Ideal S2x6912 .f32) (n : Fin 6912) : View.ld a r0_6 (ix2 (0 : Fin 1) n) = a (ix2 (1 : Fin 2) n) := by
  rw [View.ld_unit]
  exact extractStridedSlice_apply _ _ _ _ _ (by intro b; match b with | ⟨0, _⟩ => rfl | ⟨1, _⟩ => exact (Nat.zero_add _).symm)

/-- The down projection of the second half. -/
theorem d1 (a : Vec Ideal S2x1152x32 .bf16) (k : Fin 1152) (l : Fin 32) : View.ld a r0_7 (ix3 (0 : Fin 1) k l) = a (ix3 (1 : Fin 2) k l) := by
  rw [View.ld_unit]
  exact extractStridedSlice_apply _ _ _ _ _ (by intro b; match b with | ⟨0, _⟩ => rfl | ⟨1, _⟩ => exact (Nat.zero_add _).symm | ⟨2, _⟩ => exact (Nat.zero_add _).symm)

/-- The up projection of the second half. -/
theorem u1 (a : Vec Ideal S2x32x6912 .bf16) (l : Fin 32) (n : Fin 6912) : View.ld a r0_8 (ix3 (0 : Fin 1) l n) = a (ix3 (1 : Fin 2) l n) := by
  rw [View.ld_unit]
  exact extractStridedSlice_apply _ _ _ _ _ (by intro b; match b with | ⟨0, _⟩ => rfl | ⟨1, _⟩ => exact (Nat.zero_add _).symm | ⟨2, _⟩ => exact (Nat.zero_add _).symm)

/-- One half's value in the reference. -/
theorem half_apply (a0 : Vec Ideal S16x1024x1152 .bf16) (w : Vec Ideal S1152x1x6912 .fp8e4m3)
    (s : Vec Ideal S1x6912 .f32) (a : Vec Ideal S1x1152x32 .bf16) (b : Vec Ideal S1x32x6912 .bf16) (r : Fin 16384) (n : Fin 6912) :
    ((∑ k : Fin 1152, (k0_pay5 (F := Ideal) a0 (ix3 (hi r) (lo r) k) : EReal) * w (ix3 k (0 : Fin 1) n))
          * k0_pay4 (F := Ideal) a0 (ix2 (hi r) (lo r)) * s (ix2 (0 : Fin 1) n) : EReal)
        + Ideal.ofBits .f32 0x40000000#32 * adapt (F := Ideal) (shapeCast S16384x1152 a0 shapeCasts_S16x1024x1152_S16384x1152) a b (ix2 r n)
      = pre (fun k => a0 (ix3 (hi r) (lo r) k)) (rScale (amax fun k => a0 (ix3 (hi r) (lo r) k)))
          (rInv (amax fun k => a0 (ix3 (hi r) (lo r) k))) (fun k => w (ix3 k (0 : Fin 1) n)) (s (ix2 (0 : Fin 1) n))
          (fun l k => a (ix3 (0 : Fin 1) k l)) (fun l => b (ix3 (0 : Fin 1) l n)) := by
  unfold pre
  refine congrArg₂ (· + ·) (congrArg (· * _) (congrArg₂ (· * ·) (Finset.sum_congr rfl fun k _ => ?_) (scale_apply a0 _ _)))
    (congrArg (_ * ·) ((adapt_apply _ a b r n).trans (Finset.sum_congr rfl fun l _ => ?_)))
  · exact congrArg (· * _) (code_apply a0 _ _ k)
  · exact congrArg (fun f => low f _ * _) (funext fun k => rows_apply (e := .bf16) a0 r k)

/-- The reference's gated product. -/
theorem out_apply (a0 : Vec Ideal S16x1024x1152 .bf16) (a1 : Vec Ideal S1152x2x6912 .fp8e4m3) (a2 : Vec Ideal S2x6912 .f32)
    (a3 : Vec Ideal S2x1152x32 .bf16) (a4 : Vec Ideal S2x32x6912 .bf16) (r : Fin 16384) (n : Fin 6912) :
    Value.G5 (F := Ideal) a0 a1 a2 a3 a4 (ix2 r n)
      = gate (pre (fun k => a0 (ix3 (hi r) (lo r) k)) (rScale (amax fun k => a0 (ix3 (hi r) (lo r) k)))
          (rInv (amax fun k => a0 (ix3 (hi r) (lo r) k))) (fun k => a1 (ix3 k (0 : Fin 2) n)) (a2 (ix2 (0 : Fin 2) n))
          (fun l k => a3 (ix3 (0 : Fin 2) k l)) (fun l => a4 (ix3 (0 : Fin 2) l n)))
        (pre (fun k => a0 (ix3 (hi r) (lo r) k)) (rScale (amax fun k => a0 (ix3 (hi r) (lo r) k)))
          (rInv (amax fun k => a0 (ix3 (hi r) (lo r) k))) (fun k => a1 (ix3 k (1 : Fin 2) n)) (a2 (ix2 (1 : Fin 2) n))
          (fun l k => a3 (ix3 (1 : Fin 2) k l)) (fun l => a4 (ix3 (1 : Fin 2) l n))) := by
  show k0_pay8 (F := Ideal) a0 (k0_pay4 (View.ld a0 r0_0)) (k0_pay5 (View.ld a0 r0_0)) (k0_pay6 a0 (View.ld a1 r0_1) (View.ld a2 r0_2))
    (k0_pay7 a0) (View.ld a3 r0_3) (View.ld a4 r0_4) (View.ld a1 r0_5) (View.ld a2 r0_6) (View.ld a3 r0_7) (View.ld a4 r0_8) (ix2 r n) = _
  rw [whole]
  refine (gate_gen (F := Ideal) _ _ _ _ _ _ _ _ _ _ _ (ix2 r n)).trans ?_
  rw [base_gen (F := Ideal), lit]
  show gate _ _ = _
  refine congrArg₂ gate ?_ ?_
  · refine (congrArg (· + _) (base_apply (k0_pay5 (F := Ideal) a0) (k0_pay4 (F := Ideal) a0) (View.ld a1 r0_1) (View.ld a2 r0_2) r n)).trans ?_
    refine (half_apply a0 (View.ld a1 r0_1) (View.ld a2 r0_2) (View.ld a3 r0_3) (View.ld a4 r0_4) r n).trans ?_
    exact congr (congr (congr (congrArg (pre _ _ _) (funext fun k => w0 a1 k n)) (s0 a2 n))
      (funext fun l => funext fun k => d0 a3 k l)) (funext fun l => u0 a4 l n)
  · refine (congrArg (· + _) (base_apply (k0_pay5 (F := Ideal) a0) (k0_pay4 (F := Ideal) a0) (View.ld a1 r0_5) (View.ld a2 r0_6) r n)).trans ?_
    refine (half_apply a0 (View.ld a1 r0_5) (View.ld a2 r0_6) (View.ld a3 r0_7) (View.ld a4 r0_8) r n).trans ?_
    exact congr (congr (congr (congrArg (pre _ _ _) (funext fun k => w1 a1 k n)) (s1 a2 n))
      (funext fun l => funext fun k => d1 a3 k l)) (funext fun l => u1 a4 l n)

end Cert.ReferenceIdeal.At
-- ==== Proof.KernelArrays.lean ====
module

public import Idealize.ShloMosaic.Lib.Claim
public import Idealize.ShloMosaic.Lib.Pipeline.ValueKit
public import Idealize.ShloMosaic.Lib.Pipeline.ArrRel
public import proofs.«01_k».proof.Proof.KernelValue
public import proofs.«01_k».proof.Proof.ReferenceValue

/-!
  The kernel's result arrays after the run, in terms of its argument arrays.
-/

@[expose] public section

namespace Cert.KernelIdeal.At

open Idealize.ShloMosaic hiding ix1 ix2 ix3
open Idealize.ShloMosaic.ValueIdx Idealize.SL
open Cert.KernelIdeal Cert.KernelIdeal.Gen Cert.KernelIdeal.Run Cert.Scales Cert.Spec
open scoped BigOperators

variable (m : (ℓ : Loc nD τ sig) → Buf (Elt Ideal) ℓ)

/-! ## The region's input arrays -/

/-- The tokens as the region finds them: the rows flattened. -/
theorem V_v0 (c : Dev nD) : V m c main_v0
    = shapeCast S16384x1152 (m ((c.tc : Thread nD τ).loc main_arg0)) shapeCasts_S16x1024x1152_S16384x1152 := by
  unfold_abbrev_sides
  after_results
  rfl

/-- The weights: the half first. -/
theorem V_v1 (c : Dev nD) : V m c main_v1
    = transpose S2x1152x6912 [1, 0, 2] (m ((c.tc : Thread nD τ).loc main_arg1)) transposes_S1152x2x6912_S2x1152x6912_1_0_2 := by
  unfold_abbrev_sides
  after_results

/-- The down projections: both halves stacked, transposed. -/
theorem V_v3 (c : Dev nD) : V m c main_v3
    = shapeCast S64x1152 (transpose S2x32x1152 [0, 2, 1] (m ((c.tc : Thread nD τ).loc main_arg3)) transposes_S2x1152x32_S2x32x1152_0_2_1)
        shapeCasts_S2x32x1152_S64x1152 := by
  unfold_abbrev_sides
  after_results
  rfl

/-! ## The windows' places -/

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem off1 : ∀ t : Fin cfg0.N, k0_off1 (grid0.coords t) = ![t.val / 2, t.val % 2 * 512] := (by decide +kernel : ∀ t : Fin grid0.N, _)

theorem point_lt (t : Fin cfg0.N) : t.val < 32 := t.isLt

/-- The flattened row that row `p` of point `t`'s blocks is. -/
def row (t : Fin cfg0.N) (p : Fin 512) : Fin 16384 := ⟨t.val * 512 + p.val, by have := point_lt t; omega⟩

/-- The token block at point `t`. -/
theorem iblk0 (c : Dev nD) (t : Fin cfg0.N) (p : Fin 512) (k : Fin 1152) :
    (iblk m c 0 t : Vec Ideal S512x1152 .bf16) (ix2 p k)
      = (m ((c.tc : Thread nD τ).loc main_arg0) : Vec Ideal S16x1024x1152 .bf16)
          (ix3 (ReferenceIdeal.At.hi (row t p)) (ReferenceIdeal.At.lo (row t p)) k) := by
  have ht := point_lt t
  have e : ((cfg0.win 0).blk t).view.emb (ix2 p k) = (ix2 (row t p) k : S16384x1152.Idx) := by
    funext a
    match a with
    | ⟨0, _⟩ => apply Fin.ext; blk_simp [idx0 t]; try rfl
    | ⟨1, _⟩ => apply Fin.ext; blk_simp [idx0 t]; try rfl
  show (V m c main_v0 : S16384x1152.Idx → _) (((cfg0.win 0).blk t).view.emb (ix2 p k)) = _
  rw [e, V_v0]
  exact shapeCast_apply (s := S16x1024x1152) (t := S16384x1152) _ _ _ _ (by
    rw [Shape.rowMajor_val_two, Shape.rowMajor_val_three]
    show ((t.val * 512 + p.val) / 1024 * 1024 + (t.val * 512 + p.val) % 1024) * 1152 + k.val = (t.val * 512 + p.val) * 1152 + k.val
    omega)

/-- The weights' block: the whole array, at every point. -/
theorem iblk1 (c : Dev nD) (t : Fin cfg0.N) (j : Fin 2) (k : Fin 1152) (n : Fin 6912) :
    (iblk m c 1 t : Vec Ideal S2x1152x6912 .fp8e4m3) (ix3 j k n)
      = (m ((c.tc : Thread nD τ).loc main_arg1) : Vec Ideal S1152x2x6912 .fp8e4m3) (ix3 k j n) := by
  have e : ((cfg0.win 1).blk t).view.emb (ix3 j k n) = (ix3 j k n : S2x1152x6912.Idx) := by
    funext a
    match a with
    | ⟨0, _⟩ => apply Fin.ext; blk_simp [idx1 t]; try rfl
    | ⟨1, _⟩ => apply Fin.ext; blk_simp [idx1 t]; try rfl
    | ⟨2, _⟩ => apply Fin.ext; blk_simp [idx1 t]; try rfl
  show (V m c main_v1 : S2x1152x6912.Idx → _) (((cfg0.win 1).blk t).view.emb (ix3 j k n)) = _
  rw [e, V_v1]
  exact transpose_apply _ _ _ _ _ (by intro b; match b with | ⟨0, _⟩ => rfl | ⟨1, _⟩ => rfl | ⟨2, _⟩ => rfl)

/-- The column scales' block: the whole array. -/
theorem iblk2 (c : Dev nD) (t : Fin cfg0.N) (j : Fin 2) (n : Fin 6912) :
    (iblk m c 2 t : Vec Ideal S2x6912 .f32) (ix2 j n) = (m ((c.tc : Thread nD τ).loc main_arg2) : Vec Ideal S2x6912 .f32) (ix2 j n) := by
  have e : ((cfg0.win 2).blk t).view.emb (ix2 j n) = (ix2 j n : S2x6912.Idx) := by
    funext a
    match a with
    | ⟨0, _⟩ => apply Fin.ext; blk_simp [idx2 t]; try rfl
    | ⟨1, _⟩ => apply Fin.ext; blk_simp [idx2 t]; try rfl
  show (V m c main_arg2 : S2x6912.Idx → _) (((cfg0.win 2).blk t).view.emb (ix2 j n)) = _
  rw [e, V_main_arg2]

/-- The down projections' block, a row: half `l / 32`, column `l % 32`. -/
theorem iblk3 (c : Dev nD) (t : Fin cfg0.N) (l : Fin 64) (k : Fin 1152) (j : Fin 2) (q : Fin 32) (h : l.val = j.val * 32 + q.val) :
    (iblk m c 3 t : Vec Ideal S64x1152 .bf16) (ix2 l k)
      = (m ((c.tc : Thread nD τ).loc main_arg3) : Vec Ideal S2x1152x32 .bf16) (ix3 j k q) := by
  have e : ((cfg0.win 3).blk t).view.emb (ix2 l k) = (ix2 l k : S64x1152.Idx) := by
    funext a
    match a with
    | ⟨0, _⟩ => apply Fin.ext; blk_simp [idx3 t]; try rfl
    | ⟨1, _⟩ => apply Fin.ext; blk_simp [idx3 t]; try rfl
  show (V m c main_v3 : S64x1152.Idx → _) (((cfg0.win 3).blk t).view.emb (ix2 l k)) = _
  rw [e, V_v3]
  refine (shapeCast_apply _ _ (ix2 l k) (ix3 j q k) (by
    rw [Shape.rowMajor_val_two, Shape.rowMajor_val_three]
    show (j.val * 32 + q.val) * 1152 + k.val = l.val * 1152 + k.val
    omega)).trans ?_
  exact transpose_apply _ _ _ _ _ (by intro b; match b with | ⟨0, _⟩ => rfl | ⟨1, _⟩ => rfl | ⟨2, _⟩ => rfl)

/-- The up projections' block: the whole array. -/
theorem iblk4 (c : Dev nD) (t : Fin cfg0.N) (j : Fin 2) (l : Fin 32) (n : Fin 6912) :
    (iblk m c 4 t : Vec Ideal S2x32x6912 .bf16) (ix3 j l n)
      = (m ((c.tc : Thread nD τ).loc main_arg4) : Vec Ideal S2x32x6912 .bf16) (ix3 j l n) := by
  have e : ((cfg0.win 4).blk t).view.emb (ix3 j l n) = (ix3 j l n : S2x32x6912.Idx) := by
    funext a
    match a with
    | ⟨0, _⟩ => apply Fin.ext; blk_simp [idx4 t]; try rfl
    | ⟨1, _⟩ => apply Fin.ext; blk_simp [idx4 t]; try rfl
    | ⟨2, _⟩ => apply Fin.ext; blk_simp [idx4 t]; try rfl
  show (V m c main_arg4 : S2x32x6912.Idx → _) (((cfg0.win 4).blk t).view.emb (ix3 j l n)) = _
  rw [e, V_main_arg4]

end Cert.KernelIdeal.At
-- ==== Proof.KernelResults.lean ====
module

public import proofs.«01_k».proof.Proof.KernelArrays

/-!
  The kernel's three result arrays after the run are the reference's functions of the argument arrays, when every row's magnitude is
  admitted.
-/

@[expose] public section

namespace Cert.KernelIdeal.At

open Idealize.ShloMosaic hiding ix1 ix2 ix3
open Idealize.ShloMosaic.ValueIdx Idealize.SL
open Idealize.ShloMosaic.Pipeline (RDat)
open Cert.KernelIdeal Cert.KernelIdeal.Gen Cert.KernelIdeal.Run Cert.Scales Cert.Spec
open scoped BigOperators

variable (m : (ℓ : Loc nD τ sig) → Buf (Elt Ideal) ℓ)

/-- The argument arrays, as vectors. -/
abbrev arg0 (c : Dev nD) : Vec Ideal S16x1024x1152 .bf16 := m ((c.tc : Thread nD τ).loc main_arg0)
abbrev arg1 (c : Dev nD) : Vec Ideal S1152x2x6912 .fp8e4m3 := m ((c.tc : Thread nD τ).loc main_arg1)
abbrev arg2 (c : Dev nD) : Vec Ideal S2x6912 .f32 := m ((c.tc : Thread nD τ).loc main_arg2)
abbrev arg3 (c : Dev nD) : Vec Ideal S2x1152x32 .bf16 := m ((c.tc : Thread nD τ).loc main_arg3)
abbrev arg4 (c : Dev nD) : Vec Ideal S2x32x6912 .bf16 := m ((c.tc : Thread nD τ).loc main_arg4)

/-- Every token row's largest magnitude is one at which the two quantisers agree. -/
def Good (c : Dev nD) : Prop := ∀ (p : Fin 16) (q : Fin 1024), Admits (amax fun k => arg0 m c (ix3 p q k))

/-- A token row, flattened. -/
abbrev tok (c : Dev nD) (r : Fin 16384) : Fin 1152 → EReal :=
  fun k => arg0 m c (ix3 (ReferenceIdeal.At.hi r) (ReferenceIdeal.At.lo r) k)

/-- A row of the token block at point `t` is the flattened row `row t p`. -/
theorem iblk0_row (c : Dev nD) (t : Fin cfg0.N) (p : Fin 512) :
    (fun k : Fin 1152 => (iblk m c 0 t : Vec Ideal S512x1152 .bf16) (ix2 p k)) = tok m c (row t p) :=
  funext fun k => iblk0 m c t p k

/-- `pre` at equal arguments. -/
theorem pre_congr {x x' : Fin 1152 → EReal} {sc sc' inv inv' : EReal} {w w' : Fin 1152 → EReal} {s s' : EReal}
    {a a' : Fin 32 → Fin 1152 → EReal} {b b' : Fin 32 → EReal} (hx : x = x') (hsc : sc = sc') (hinv : inv = inv') (hw : w = w')
    (hs : s = s') (ha : a = a') (hb : b = b') : pre x sc inv w s a b = pre x' sc' inv' w' s' a' b' := by
  rw [hx, hsc, hinv, hw, hs, ha, hb]

/-- What the body leaves of the first result, at an element. -/
theorem out_point (c : Dev nD) (hg : Good m c) (t : Fin cfg0.N) (y : S512x6912.Idx) :
    outY (iblk m c 0 t) (iblk m c 1 t) (iblk m c 2 t) (iblk m c 3 t) (iblk m c 4 t) y
      = ReferenceIdeal.Value.G5 (F := Ideal) (arg0 m c) (arg1 m c) (arg2 m c) (arg3 m c) (arg4 m c) (ix2 (row t (y 0)) (y 1 : Fin 6912)) := by
  refine (out_apply _ _ _ _ _ y).trans (Eq.trans ?_ (ReferenceIdeal.At.out_apply _ _ _ _ _ _ _).symm)
  have ag := agree _ (hg (ReferenceIdeal.At.hi (row t (y 0))) (ReferenceIdeal.At.lo (row t (y 0))))
  rw [iblk0_row m c t (y 0)]
  unfold rowOut
  refine congr (congrArg gate (pre_congr rfl ag.1 ag.2 ?_ ?_ ?_ ?_)) (pre_congr rfl ag.1 ag.2 ?_ ?_ ?_ ?_)
  · exact funext fun k => iblk1 m c t 0 k (y 1)
  · exact iblk2 m c t 0 (y 1)
  · exact funext fun l => funext fun k => iblk3 m c t _ k 0 l (by simp)
  · exact funext fun l => iblk4 m c t 0 l (y 1)
  · exact funext fun k => iblk1 m c t 1 k (y 1)
  · exact iblk2 m c t 1 (y 1)
  · exact funext fun l => funext fun k => iblk3 m c t _ k 1 l (by simp)
  · exact funext fun l => iblk4 m c t 1 l (y 1)

/-- What the body leaves of the codes, at an element. -/
theorem codes_point (c : Dev nD) (hg : Good m c) (t : Fin cfg0.N) (y : S512x1152.Idx) :
    codesOf (iblk m c 0 t) y
      = ReferenceIdeal.Value.G6 (F := Ideal) (arg0 m c) (arg1 m c) (arg2 m c) (arg3 m c) (arg4 m c) (ix2 (row t (y 0)) (y 1 : Fin 1152)) := by
  have ag := agree _ (hg (ReferenceIdeal.At.hi (row t (y 0))) (ReferenceIdeal.At.lo (row t (y 0))))
  refine Eq.trans ?_ (ReferenceIdeal.At.codes _ _ _ _ _ _ _).symm
  refine (congrArg (codesOf (iblk m c 0 t)) (ValueIdx.eq_ix2 y)).trans ((code_apply _ _ _).trans ?_)
  rw [iblk0_row m c t (y 0)]
  refine congr (congrArg code ag.2) ?_
  exact iblk0 m c t (y 0) (y 1)

/-- The relational proof data's first result array after the run. -/
theorem final_out (c : Dev nD) (hg : Good m c) (after)
    (hL : ∀ u, (cfg0.win 5).flush u = true → (rdat m c).Leaves 5 u (after 5 u)) :
    ((rdat m c).withAfter after).arrAt 5 cfg0.N
      = ReferenceIdeal.Value.G5 (F := Ideal) (arg0 m c) (arg1 m c) (arg2 m c) (arg3 m c) (arg4 m c) := by
  refine ((rdat m c).withAfter after).arrAt_eq_of_covers 5 _ (by decide +kernel) fun t hf y => ?_
  obtain ⟨Y, -, hX⟩ := hL t hf
  rw [after_5] at hX
  blk_simp
  rw [RDat.withAfter_after, hX]
  refine (out_point m c hg t y).trans (congrArg _ ?_)
  funext a
  match a with
  | ⟨0, _⟩ => apply Fin.ext; blk_simp [idx5 t]; rfl
  | ⟨1, _⟩ => apply Fin.ext; blk_simp [idx5 t]; rfl

/-- The codes' array after the run. -/
theorem final_codes (c : Dev nD) (hg : Good m c) (after)
    (hL : ∀ u, (cfg0.win 6).flush u = true → (rdat m c).Leaves 6 u (after 6 u)) :
    ((rdat m c).withAfter after).arrAt 6 cfg0.N
      = ReferenceIdeal.Value.G6 (F := Ideal) (arg0 m c) (arg1 m c) (arg2 m c) (arg3 m c) (arg4 m c) := by
  refine ((rdat m c).withAfter after).arrAt_eq_of_covers 6 _ (by decide +kernel) fun t hf y => ?_
  obtain ⟨Y, -, hX⟩ := hL t hf
  rw [after_6] at hX
  blk_simp
  rw [RDat.withAfter_after, hX]
  refine (codes_point m c hg t y).trans (congrArg _ ?_)
  funext a
  match a with
  | ⟨0, _⟩ => apply Fin.ext; blk_simp [idx6 t]; rfl
  | ⟨1, _⟩ => apply Fin.ext; blk_simp [idx6 t]; rfl

/-! ## The scales -/

theorem fetch7 : ∀ t : Fin cfg0.N, (cfg0.win 7).fetch t = false := (by decide +kernel : ∀ t : Fin grid0.N, _)
theorem whole7 : (cfg0.win 7).WholeAt (⟨31, by decide⟩ : Fin cfg0.N) := by decide +kernel

/-- The store of point `t`, at a lane: the point's own lanes take the payload, the others keep what they held. -/
theorem putScale_apply (t : Fin cfg0.N) (x0 : Vec Ideal S512x1152 .bf16) (z : Vec Ideal S16x1024 .f32) (b : Fin 16) (s : Fin 1024) :
    putScale (grid0.coords t) x0 z (ix2 b s)
      = if h : t.val * 512 ≤ b.val * 1024 + s.val ∧ b.val * 1024 + s.val < t.val * 512 + 512
          then k0_pay9 (scaleOf x0) (ix2 (0 : Fin 1) (⟨b.val * 1024 + s.val - t.val * 512, by omega⟩ : Fin 512)) else z (ix2 b s) := by
  have ho0 : k0_off1 (grid0.coords t) 0 = t.val / 2 := congrFun (off1 t) 0
  have ho1 : k0_off1 (grid0.coords t) 1 = t.val % 2 * 512 := congrFun (off1 t) 1
  have hs := s.isLt
  unfold putScale VecWindow.put
  by_cases h : t.val * 512 ≤ b.val * 1024 + s.val ∧ b.val * 1024 + s.val < t.val * 512 + 512
  · have h' : ∀ a : Fin 2, k0_off1 (grid0.coords t) a ≤ ((ix2 b s : S16x1024.Idx) a).val
        ∧ ((ix2 b s : S16x1024.Idx) a).val < k0_off1 (grid0.coords t) a + S1x512.size a := fun a => by
      match a with
      | ⟨0, _⟩ =>
        show k0_off1 (grid0.coords t) 0 ≤ b.val ∧ b.val < k0_off1 (grid0.coords t) 0 + 1
        rw [ho0]; omega
      | ⟨1, _⟩ =>
        show k0_off1 (grid0.coords t) 1 ≤ s.val ∧ s.val < k0_off1 (grid0.coords t) 1 + 512
        rw [ho1]; omega
    rw [dif_pos h', dif_pos h]
    refine congrArg (k0_pay9 (scaleOf x0)) (funext fun a => Fin.ext ?_)
    match a with
    | ⟨0, _⟩ =>
      show b.val - k0_off1 (grid0.coords t) 0 = 0
      rw [ho0]; omega
    | ⟨1, _⟩ =>
      show s.val - k0_off1 (grid0.coords t) 1 = b.val * 1024 + s.val - t.val * 512
      rw [ho1]; omega
  · rw [dif_neg h, dif_neg]
    intro h'
    have h0 : k0_off1 (grid0.coords t) 0 ≤ b.val ∧ b.val < k0_off1 (grid0.coords t) 0 + 1 := h' 0
    have h1 : k0_off1 (grid0.coords t) 1 ≤ s.val ∧ s.val < k0_off1 (grid0.coords t) 1 + 512 := h' 1
    rw [ho0] at h0; rw [ho1] at h1
    omega

/-- The point's own lanes hold the scales of their rows. -/
theorem own_lane (c : Dev nD) (t : Fin cfg0.N) (b : Fin 16) (s : Fin 1024) (h0 : t.val * 512 ≤ b.val * 1024 + s.val)
    (h1 : b.val * 1024 + s.val < t.val * 512 + 512) :
    k0_pay9 (scaleOf (iblk m c 0 t)) (ix2 (0 : Fin 1) (⟨b.val * 1024 + s.val - t.val * 512, by omega⟩ : Fin 512))
      = kScale (amax fun k => arg0 m c (ix3 b s k)) := by
  rw [lane_apply, iblk0_row]
  have hs := s.isLt
  have e : (row t (⟨b.val * 1024 + s.val - t.val * 512, by omega⟩ : Fin 512)).val = b.val * 1024 + s.val := by
    show t.val * 512 + (b.val * 1024 + s.val - t.val * 512) = _
    omega
  have eh : ReferenceIdeal.At.hi (row t (⟨b.val * 1024 + s.val - t.val * 512, by omega⟩ : Fin 512)) = b :=
    Fin.ext (by show (row t _).val / 1024 = _; rw [e]; omega)
  have el : ReferenceIdeal.At.lo (row t (⟨b.val * 1024 + s.val - t.val * 512, by omega⟩ : Fin 512)) = s :=
    Fin.ext (by show (row t _).val % 1024 = _; rw [e]; omega)
  refine congrArg (fun z => kScale (amax z)) (funext fun k => ?_)
  show arg0 m c (ix3 (ReferenceIdeal.At.hi _) (ReferenceIdeal.At.lo _) k) = _
  rw [eh, el]

/-- After point `t` the scales of the rows up to it are in place, whatever the buffer held at first. -/
theorem scales_upto (c : Dev nD) (n : ℕ) : ∀ (t : Fin cfg0.N), t.val = n → ∀ X : Vec Ideal S16x1024 .f32, (rdat m c).Leaves 7 t X →
    ∀ (b : Fin 16) (s : Fin 1024), b.val * 1024 + s.val < t.val * 512 + 512 →
      X (ix2 b s) = kScale (amax fun k => arg0 m c (ix3 b s k)) := by
  induction n with
  | zero =>
    intro t ht X hL b s hlt
    obtain ⟨Y, -, hX⟩ := hL
    rw [after_7] at hX
    rw [hX, putScale_apply, dif_pos ⟨by omega, hlt⟩]
    exact own_lane m c t b s (by omega) hlt
  | succ n ih =>
    intro t ht X hL b s hlt
    obtain ⟨Y, hY, hX⟩ := hL
    rw [after_7] at hX
    rw [hX, putScale_apply]
    by_cases h : t.val * 512 ≤ b.val * 1024 + s.val
    · rw [dif_pos ⟨h, hlt⟩]
      exact own_lane m c t b s h hlt
    · rw [dif_neg (fun h' => h h'.1)]
      have ht' := point_lt t
      rcases ((rdat m c).finds_of_pos (fetch7 t) (by omega) Y).1 hY with hf | hl
      · exact absurd ((flush0_7 _).1 hf) (by show ¬ (t.val - 1) % 32 = 31; omega)
      · exact ih _ (by show t.val - 1 = n; omega) Y hl b s (by show _ < (t.val - 1) * 512 + 512; omega)

/-- The scales' array after the run. -/
theorem final_scales (c : Dev nD) (hg : Good m c) (G : Vec Ideal S16x1024 .f32) (hG : (rdat m c).ArrAt 7 cfg0.N G) :
    G = ReferenceIdeal.Value.G7 (F := Ideal) (arg0 m c) (arg1 m c) (arg2 m c) (arg3 m c) (arg4 m c) := by
  obtain ⟨X, hL, hX⟩ := RDat.ArrAt.emb_eq_of_wholeAt hG whole7
  funext j
  have e := scales_upto m c 31 ⟨31, by decide⟩ rfl X hL (j 0) (j 1) (by
    have h0 : (j 0).val < 16 := (j 0).isLt
    have h1 : (j 1).val < 1024 := (j 1).isLt
    show (j 0).val * 1024 + (j 1).val < 31 * 512 + 512
    omega)
  have ag := agree _ (hg (j 0) (j 1))
  have ej := ValueIdx.eq_ix2 j
  refine Eq.trans (hX j) (Eq.trans ?_ ((congrArg _ ej).trans (ReferenceIdeal.At.scales _ _ _ _ _ _ _)).symm)
  refine Eq.trans ?_ (e.trans ag.1)
  exact congrArg X ej

/-- The launch at the values: from any memory with zero counters in which every row is admitted, every final state has the three results
    at the reference's functions of the arguments, and the arguments unchanged. -/
theorem run (ρ : Dev nD → PrngReg) (hg : ∀ c, Good m c) : θ_run defs (onTc (τ := τ) (main (F := Ideal))) ⟨m, fun _ => 0, ρ⟩ (fun r => ∀ c : Dev nD,
      r.2.mem ((c.tc : Thread nD τ).loc main_v4_0)
        = ReferenceIdeal.Value.G5 (F := Ideal) (arg0 m c) (arg1 m c) (arg2 m c) (arg3 m c) (arg4 m c)
      ∧ r.2.mem ((c.tc : Thread nD τ).loc main_v4_1)
        = ReferenceIdeal.Value.G6 (F := Ideal) (arg0 m c) (arg1 m c) (arg2 m c) (arg3 m c) (arg4 m c)
      ∧ r.2.mem ((c.tc : Thread nD τ).loc main_v4_2)
        = ReferenceIdeal.Value.G7 (F := Ideal) (arg0 m c) (arg1 m c) (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main_quiescent m ρ)
  obtain ⟨after, hL, hA⟩ := h.1.exists_exact c
  exact ⟨(hA 5).trans (final_out m c (hg c) after (hL 5)), (hA 6).trans (final_codes m c (hg c) after (hL 6)),
    final_scales m c (hg c) _ ((h.1 c).1 7), args_of m h.1 c⟩

end Cert.KernelIdeal.At
-- ==== Proof.Rows.lean ====
module

public import Idealize.ShloMosaic.Lib.ReduceAll
public import Idealize.ShloMosaic.Lib.KernelVsHost
public import proofs.«01_k».proof.Pre_tokens_in_range
public import proofs.«01_k».proof.Proof.ReferenceValue

/-!
  The precondition, row by row: where it holds, every token row's largest magnitude is admitted.
-/

@[expose] public section

namespace Cert.Pre_tokens_in_range.At

open Idealize.ShloMosaic
open Idealize.ShloMosaic.ValueIdx
open Cert.Pre_tokens_in_range Cert.Scales Cert.Spec

section Generic
variable {F : FTy → Type} [FloatOps F]

/-- The test of one row of largest magnitude `a`, in the operations of any number type. -/
def test (a : F .f32) : BitVec 1 :=
  IntOp.ori (FloatOps.cmpf .oeq a (Scalar.ofBits .f32 0x00000000#32))
    (IntOp.andi (FloatOps.cmpf .oge (FloatOps.mulf a (Scalar.ofBits .f32 0x3B124925#32)) (Scalar.ofBits .f32 0x00800000#32))
      (FloatOps.cmpf .olt (FloatOps.mulf a (Scalar.ofBits .f32 0x3B124925#32)) (Scalar.ofBits .f32 0x7E800000#32)))

/-- The rows' largest magnitudes, as the precondition computes them. -/
def rows [Facts] (a0 : FVec F S16x1024x1152 .bf16) : FVec F S16x1024 .f32 :=
  Host.reduce FloatOps.maximumf (Host.absf (extf .f32 a0 Facts.bitsLt_bf16_f32)) (constant S_ .f32 0xFF800000#32)
    Facts.reducesTo_S16x1024x1152_S16x1024_d2 Facts.h_S_

/-- The precondition is the conjunction of the rows' tests. -/
theorem fn_eq [Facts] (a0 : FVec F S16x1024x1152 .bf16) (a1 : FVec F S1152x2x6912 .fp8e4m3) (a2 : FVec F S2x6912 .f32)
    (a3 : FVec F S2x1152x32 .bf16) (a4 : FVec F S2x32x6912 .bf16) :
    fn a0 a1 a2 a3 a4 = Host.reduce IntOp.andi (fun i => test (rows a0 i)) (constantI S_ 1 1#1) Facts.reducesTo_S16x1024_S_d0_1 Facts.h_S_ :=
  rfl

end Generic

/-- The largest magnitude of row `(p, q)`. -/
theorem rows_apply [Facts] (a0 : FVec Ideal S16x1024x1152 .bf16) (p : Fin 16) (q : Fin 1024) :
    rows a0 (ix2 p q) = amax fun k => a0 (ix3 p q k) := by
  unfold rows
  refine (congrFun (hostReduce_maximumf_eq_multiReduction (Host.absf (extf .f32 a0 Facts.bitsLt_bf16_f32)) _ _ _
    ReferenceIdeal.Gen.facts.reduces_S16x1024x1152_S16x1024 (.inl rfl) rfl) (ix2 p q)).trans ?_
  exact ReferenceIdeal.At.max_apply _ p q

/-- A truth value that is the one word is true. -/
theorem of_ofBool {p : Prop} [Decidable p] (h : BitVec.ofBool (decide p) = 1#1) : p := by
  by_contra hp
  rw [decide_eq_false hp] at h
  exact absurd h (by decide)

/-- A row that passes its test is admitted. -/
theorem admits_of_test (a : EReal) (h : test (F := Ideal) a = 1#1) : Admits a := by
  unfold test at h
  rw [IntOp.ori_eq_one, IntOp.andi_eq_one] at h
  rcases h with h | ⟨h1, h2⟩
  · exact .inl (of_ofBool h)
  · exact .inr ⟨of_ofBool h1, of_ofBool h2⟩

/-- Where the precondition holds every token row is admitted. -/
theorem admits [Facts] (a0 : FVec Ideal S16x1024x1152 .bf16) (a1 : FVec Ideal S1152x2x6912 .fp8e4m3) (a2 : FVec Ideal S2x6912 .f32)
    (a3 : FVec Ideal S2x1152x32 .bf16) (a4 : FVec Ideal S2x32x6912 .bf16) (h : fn a0 a1 a2 a3 a4 = fun _ => 1#1) (p : Fin 16) (q : Fin 1024) :
    Admits (amax fun k => a0 (ix3 p q k)) := by
  have e := congrFun ((fn_eq a0 a1 a2 a3 a4).symm.trans h) ix0
  have : Subsingleton S_.Idx := ⟨fun a b => funext fun i => i.elim0⟩
  rw [← rows_apply]
  exact admits_of_test _ (Host.reduce_andi_all _ _ _ _ _ e (ix2 p q))

end Cert.Pre_tokens_in_range.At
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_tokens_in_range
public import proofs.«01_k».proof.Proof.KernelRun
public import proofs.«01_k».proof.Proof.KernelIdealRun
import proofs.«01_k».proof.Proof.KernelResults
import proofs.«01_k».proof.Proof.Rows
public import Idealize.ShloMosaic.Adequacy
public import Idealize.ShloMosaic.Init

@[expose] public section

noncomputable section

namespace Cert.Proof

open Idealize.ShloMosaic Idealize.SL.Sem Cert.Kernel

/-- Every claim: the frames, the kernel's two printings being one program, and the kernel's three results being the reference's wherever
    every token row is in range. -/
theorem claim : Cert.Claim :=
  ⟨Cert.Kernel.Gen.facts, Cert.KernelIdeal.Gen.facts, Cert.ReferenceIdeal.Gen.facts, Cert.Pre_tokens_in_range.Gen.facts,
    fun m g _ => Cert.Kernel.Run.frame m g, fun m g _ => Cert.KernelIdeal.Run.frame m g, fun m g _ => Cert.KernelIdeal.Run.frame m g,
    fun m g _ => Cert.ReferenceIdeal.Gen.frame m g, fun m g _ => Cert.ReferenceIdeal.Gen.frame m g, trivial,
    fun m g m' g' hpre hargs => by
      have hg : ∀ c, Cert.KernelIdeal.At.Good m c := fun c => Cert.Pre_tokens_in_range.At.admits _ _ _ _ _ (hpre c)
      refine ⟨_, _, _, Cert.KernelIdeal.At.run m g hg, ?_⟩
      refine (θ_run _ _ _).mono (fun r h c => ?_) (Cert.ReferenceIdeal.Value.run m' g')
      obtain ⟨h0, h1, h2, ha⟩ := h c
      obtain ⟨e0, e1, e2, e3, e4⟩ := hargs c
      rw [e0, e1, e2, e3, e4] at h0 h1 h2
      exact ⟨h0, h1, h2, ha⟩⟩

end Cert.Proof

end
